-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_best_target [hPre_one_best_target : Cert.Pre_one_best_target.Facts] (m : (ℓ : Loc Cert.KernelIdeal.nD Cert.KernelIdeal.τ Cert.KernelIdeal.sig) → Buf (Elt Ideal) ℓ) : Prop :=
  ∀ c : Dev Cert.KernelIdeal.nD,
    (Cert.Pre_one_best_target.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_best_target [hPre_one_best_target : Cert.Pre_one_best_target.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_best_target.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_one_best_target [hKernelIdeal : Cert.KernelIdeal.Facts] [hPre_one_best_target : Cert.Pre_one_best_target.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_best_target m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_one_best_target [hReferenceIdeal : Cert.ReferenceIdeal.Facts] [hPre_one_best_target : Cert.Pre_one_best_target.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_best_target m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_one_best_target [hKernelIdeal : Cert.KernelIdeal.Facts] [hReferenceIdeal : Cert.ReferenceIdeal.Facts] [hPre_one_best_target : Cert.Pre_one_best_target.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_best_target m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_v157) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_one_best_target : Cert.Pre_one_best_target.Facts),
    quiescent_Kernel (hKernel := hKernel)
    ∧ quiescent_KernelIdeal (hKernelIdeal := hKernelIdeal)
    ∧ quiescent_KernelIdeal_pre_one_best_target (hKernelIdeal := hKernelIdeal) (hPre_one_best_target := hPre_one_best_target)
    ∧ quiescent_ReferenceIdeal (hReferenceIdeal := hReferenceIdeal)
    ∧ quiescent_ReferenceIdeal_pre_one_best_target (hReferenceIdeal := hReferenceIdeal) (hPre_one_best_target := hPre_one_best_target)
    ∧ preserves_Kernel_KernelIdeal
    ∧ algebraic_KernelIdeal_ReferenceIdeal_pre_one_best_target (hKernelIdeal := hKernelIdeal) (hReferenceIdeal := hReferenceIdeal) (hPre_one_best_target := hPre_one_best_target)
-- ==== Pre_one_best_target.lean ====
abbrev S65536x21 : Shape := ⟨2, ![65536, 21]⟩
abbrev S65536x4 : Shape := ⟨2, ![65536, 4]⟩
abbrev S256x4 : Shape := ⟨2, ![256, 4]⟩
abbrev S256 : Shape := ⟨1, ![256]⟩
abbrev S65536x1 : Shape := ⟨2, ![65536, 1]⟩
abbrev S65536 : Shape := ⟨1, ![65536]⟩
abbrev S1x65536 : Shape := ⟨2, ![1, 65536]⟩
abbrev S256x1 : Shape := ⟨2, ![256, 1]⟩
abbrev S256x65536 : Shape := ⟨2, ![256, 65536]⟩
abbrev S_ : Shape := ⟨0, ![]⟩

class Facts : Prop where
  slices_S65536x4_S65536x1_0_0 : S65536x4.Slices ![0, 0] S65536x1
  shapeCasts_S65536x1_S65536 : S65536x1.ShapeCasts S65536
  bcast_S65536_S1x65536_1 : S65536.BroadcastsInDim S1x65536 (![1] : Fin 1 → Fin S1x65536.rank)
  slices_S65536x4_S65536x1_0_1 : S65536x4.Slices ![0, 1] S65536x1
  slices_S65536x4_S65536x1_0_2 : S65536x4.Slices ![0, 2] S65536x1
  slices_S65536x4_S65536x1_0_3 : S65536x4.Slices ![0, 3] S65536x1
  slices_S256x4_S256x1_0_0 : S256x4.Slices ![0, 0] S256x1
  shapeCasts_S256x1_S256 : S256x1.ShapeCasts S256
  bcast_S256_S256x1_0 : S256.BroadcastsInDim S256x1 (![0] : Fin 1 → Fin S256x1.rank)
  slices_S256x4_S256x1_0_1 : S256x4.Slices ![0, 1] S256x1
  slices_S256x4_S256x1_0_2 : S256x4.Slices ![0, 2] S256x1
  slices_S256x4_S256x1_0_3 : S256x4.Slices ![0, 3] S256x1
  bcast_S256x1_S256x65536_0_1 : S256x1.BroadcastsInDim S256x65536 (![0, 1] : Fin 2 → Fin S256x65536.rank)
  bcast_S1x65536_S256x65536_0_1 : S1x65536.BroadcastsInDim S256x65536 (![0, 1] : Fin 2 → Fin S256x65536.rank)
  bcast_S_S256x65536 : S_.BroadcastsInDim S256x65536 (![] : Fin 0 → Fin S256x65536.rank)
  reducesTo_S256x65536_S65536_d0 : S256x65536.ReducesTo [0] S65536
  h_S_ : 0 < S_.numel
  natLt_1_32 : 1 < 32
  bcast_S_S65536 : S_.BroadcastsInDim S65536 (![] : Fin 0 → Fin S65536.rank)

variable [Facts]

def fn_part3 {F : FTy → Type} [FloatOps F] (main_v61 : IVec S65536 32) (main_v63 : IVec S65536 1) (main_v64 : IVec S65536 32) : IVec S65536 1 :=
  let main_v65 : IVec S65536 1 := cmpi .eq main_v61 main_v64
  let main_v66 : IVec S65536 1 := ori main_v63 main_v65
  main_v66

def fn_part2 {F : FTy → Type} [FloatOps F] (main_v26 : FVec F S256x1 .f32) (main_v29 : FVec F S1x65536 .f32) (main_v38 : FVec F S256x65536 .f32) (main_v45 : FVec F S256x65536 .f32) (main_cst_0 : FVec F S_ .f32) : IVec S65536 1 :=
  let main_v46 : FVec F S256x65536 .f32 := broadcastInDim S256x65536 ![] bcast_S_S256x65536 main_cst_0
  let main_v47 : FVec F S256x65536 .f32 := maximumf main_v45 main_v46
  let main_v48 : FVec F S256x65536 .f32 := mulf main_v38 main_v47
  let main_v49 : FVec F S256x65536 .f32 := broadcastInDim S256x65536 ![0, 1] bcast_S256x1_S256x65536_0_1 main_v26
  let main_v50 : FVec F S256x65536 .f32 := broadcastInDim S256x65536 ![0, 1] bcast_S1x65536_S256x65536_0_1 main_v29
  let main_v51 : FVec F S256x65536 .f32 := addf main_v49 main_v50
  let main_v52 : FVec F S256x65536 .f32 := subf main_v51 main_v48
  let main_cst_1 : FVec F S_ .f32 := constant S_ .f32 0x322BCC77#32
  let main_v53 : FVec F S256x65536 .f32 := broadcastInDim S256x65536 ![] bcast_S_S256x65536 main_cst_1
  let main_v54 : FVec F S256x65536 .f32 := addf main_v52 main_v53
  let main_v55 : FVec F S256x65536 .f32 := Host.divf main_v48 main_v54
  let main_cst_2 : FVec F S_ .f32 := constant S_ .f32 0xFF800000#32
  let main_v56 : FVec F S65536 .f32 := (fun x v => Host.reduce FloatOps.maximumf x v reducesTo_S256x65536_S65536_d0 h_S_) main_v55 main_cst_2
  let main_v57 : FVec F S1x65536 .f32 := broadcastInDim S1x65536 ![1] bcast_S65536_S1x65536_1 main_v56
  let main_v58 : FVec F S256x65536 .f32 := broadcastInDim S256x65536 ![0, 1] bcast_S1x65536_S256x65536_0_1 main_v57
  let main_v59 : IVec S256x65536 1 := cmpf .oeq main_v55 main_v58
  let main_v60 : IVec S256x65536 32 := (extui 32 · natLt_1_32) main_v59
  let main_c : IVec S_ 32 := constantI S_ 32 0#32
  let main_v61 : IVec S65536 32 := (fun x v => Host.reduce IntOp.addi x v reducesTo_S256x65536_S65536_d0 h_S_) main_v60 main_c
  let main_cst_3 : FVec F S_ .f32 := constant S_ .f32 0x3F000000#32
  let main_v62 : FVec F S65536 .f32 := broadcastInDim S65536 ![] bcast_S_S65536 main_cst_3
  let main_v63 : IVec S65536 1 := cmpf .olt main_v56 main_v62
  let main_c_4 : IVec S_ 32 := constantI S_ 32 1#32
  let main_v64 : IVec S65536 32 := broadcastInDim S65536 ![] bcast_S_S65536 main_c_4
  fn_part3 (F := F) main_v61 main_v63 main_v64

def fn_part1 {F : FTy → Type} [FloatOps F] (main_v2 : FVec F S1x65536 .f32) (main_v5 : FVec F S1x65536 .f32) (main_v8 : FVec F S1x65536 .f32) (main_v11 : FVec F S1x65536 .f32) (main_v14 : FVec F S256x1 .f32) (main_v17 : FVec F S256x1 .f32) (main_v20 : FVec F S256x1 .f32) (main_v23 : FVec F S256x1 .f32) : IVec S65536 1 :=
  let main_v24 : FVec F S256x1 .f32 := subf main_v20 main_v14
  let main_v25 : FVec F S256x1 .f32 := subf main_v23 main_v17
  let main_v26 : FVec F S256x1 .f32 := mulf main_v24 main_v25
  let main_v27 : FVec F S1x65536 .f32 := subf main_v8 main_v2
  let main_v28 : FVec F S1x65536 .f32 := subf main_v11 main_v5
  let main_v29 : FVec F S1x65536 .f32 := mulf main_v27 main_v28
  let main_v30 : FVec F S256x65536 .f32 := broadcastInDim S256x65536 ![0, 1] bcast_S256x1_S256x65536_0_1 main_v20
  let main_v31 : FVec F S256x65536 .f32 := broadcastInDim S256x65536 ![0, 1] bcast_S1x65536_S256x65536_0_1 main_v8
  let main_v32 : FVec F S256x65536 .f32 := minimumf main_v30 main_v31
  let main_v33 : FVec F S256x65536 .f32 := broadcastInDim S256x65536 ![0, 1] bcast_S256x1_S256x65536_0_1 main_v14
  let main_v34 : FVec F S256x65536 .f32 := broadcastInDim S256x65536 ![0, 1] bcast_S1x65536_S256x65536_0_1 main_v2
  let main_v35 : FVec F S256x65536 .f32 := maximumf main_v33 main_v34
  let main_v36 : FVec F S256x65536 .f32 := subf main_v32 main_v35
  let main_cst : FVec F S_ .f32 := constant S_ .f32 0x00000000#32
  let main_v37 : FVec F S256x65536 .f32 := broadcastInDim S256x65536 ![] bcast_S_S256x65536 main_cst
  let main_v38 : FVec F S256x65536 .f32 := maximumf main_v36 main_v37
  let main_v39 : FVec F S256x65536 .f32 := broadcastInDim S256x65536 ![0, 1] bcast_S256x1_S256x65536_0_1 main_v23
  let main_v40 : FVec F S256x65536 .f32 := broadcastInDim S256x65536 ![0, 1] bcast_S1x65536_S256x65536_0_1 main_v11
  let main_v41 : FVec F S256x65536 .f32 := minimumf main_v39 main_v40
  let main_v42 : FVec F S256x65536 .f32 := broadcastInDim S256x65536 ![0, 1] bcast_S256x1_S256x65536_0_1 main_v17
  let main_v43 : FVec F S256x65536 .f32 := broadcastInDim S256x65536 ![0, 1] bcast_S1x65536_S256x65536_0_1 main_v5
  let main_v44 : FVec F S256x65536 .f32 := maximumf main_v42 main_v43
  let main_v45 : FVec F S256x65536 .f32 := subf main_v41 main_v44
  let main_cst_0 : FVec F S_ .f32 := constant S_ .f32 0x00000000#32
  fn_part2 (F := F) main_v26 main_v29 main_v38 main_v45 main_cst_0

def fn {F : FTy → Type} [FloatOps F] (main_arg0 : FVec F S65536x21 .f32) (main_arg1 : FVec F S65536x4 .f32) (main_arg2 : FVec F S65536x4 .f32) (main_arg3 : FVec F S256x4 .f32) (main_arg4 : IVec S256 32) : IVec S65536 1 :=
  let main_v0 : FVec F S65536x1 .f32 := (extractStridedSlice S65536x1 ![0, 0] · slices_S65536x4_S65536x1_0_0) main_arg2
  let main_v1 : FVec F S65536 .f32 := shapeCast S65536 main_v0 shapeCasts_S65536x1_S65536
  let main_v2 : FVec F S1x65536 .f32 := broadcastInDim S1x65536 ![1] bcast_S65536_S1x65536_1 main_v1
  let main_v3 : FVec F S65536x1 .f32 := (extractStridedSlice S65536x1 ![0, 1] · slices_S65536x4_S65536x1_0_1) main_arg2
  let main_v4 : FVec F S65536 .f32 := shapeCast S65536 main_v3 shapeCasts_S65536x1_S65536
  let main_v5 : FVec F S1x65536 .f32 := broadcastInDim S1x65536 ![1] bcast_S65536_S1x65536_1 main_v4
  let main_v6 : FVec F S65536x1 .f32 := (extractStridedSlice S65536x1 ![0, 2] · slices_S65536x4_S65536x1_0_2) main_arg2
  let main_v7 : FVec F S65536 .f32 := shapeCast S65536 main_v6 shapeCasts_S65536x1_S65536
  let main_v8 : FVec F S1x65536 .f32 := broadcastInDim S1x65536 ![1] bcast_S65536_S1x65536_1 main_v7
  let main_v9 : FVec F S65536x1 .f32 := (extractStridedSlice S65536x1 ![0, 3] · slices_S65536x4_S65536x1_0_3) main_arg2
  let main_v10 : FVec F S65536 .f32 := shapeCast S65536 main_v9 shapeCasts_S65536x1_S65536
  let main_v11 : FVec F S1x65536 .f32 := broadcastInDim S1x65536 ![1] bcast_S65536_S1x65536_1 main_v10
  let main_v12 : FVec F S256x1 .f32 := (extractStridedSlice S256x1 ![0, 0] · slices_S256x4_S256x1_0_0) main_arg3
  let main_v13 : FVec F S256 .f32 := shapeCast S256 main_v12 shapeCasts_S256x1_S256
  let main_v14 : FVec F S256x1 .f32 := broadcastInDim S256x1 ![0] bcast_S256_S256x1_0 main_v13
  let main_v15 : FVec F S256x1 .f32 := (extractStridedSlice S256x1 ![0, 1] · slices_S256x4_S256x1_0_1) main_arg3
  let main_v16 : FVec F S256 .f32 := shapeCast S256 main_v15 shapeCasts_S256x1_S256
  let main_v17 : FVec F S256x1 .f32 := broadcastInDim S256x1 ![0] bcast_S256_S256x1_0 main_v16
  let main_v18 : FVec F S256x1 .f32 := (extractStridedSlice S256x1 ![0, 2] · slices_S256x4_S256x1_0_2) main_arg3
  let main_v19 : FVec F S256 .f32 := shapeCast S256 main_v18 shapeCasts_S256x1_S256
  let main_v20 : FVec F S256x1 .f32 := broadcastInDim S256x1 ![0] bcast_S256_S256x1_0 main_v19
  let main_v21 : FVec F S256x1 .f32 := (extractStridedSlice S256x1 ![0, 3] · slices_S256x4_S256x1_0_3) main_arg3
  let main_v22 : FVec F S256 .f32 := shapeCast S256 main_v21 shapeCasts_S256x1_S256
  let main_v23 : FVec F S256x1 .f32 := broadcastInDim S256x1 ![0] bcast_S256_S256x1_0 main_v22
  fn_part1 (F := F) main_v2 main_v5 main_v8 main_v11 main_v14 main_v17 main_v20 main_v23
-- ==== Kernel.lean ====
abbrev S65536x21 : Shape := ⟨2, ![65536, 21]⟩
abbrev S65536x4 : Shape := ⟨2, ![65536, 4]⟩
abbrev S256x4 : Shape := ⟨2, ![256, 4]⟩
abbrev S256 : Shape := ⟨1, ![256]⟩
abbrev S1x256 : Shape := ⟨2, ![1, 256]⟩
abbrev S21x65536 : Shape := ⟨2, ![21, 65536]⟩
abbrev S4x65536 : Shape := ⟨2, ![4, 65536]⟩
abbrev S4x256 : Shape := ⟨2, ![4, 256]⟩
abbrev S4x1x128 : Shape := ⟨3, ![4, 1, 128]⟩
abbrev S4x16384 : Shape := ⟨2, ![4, 16384]⟩
abbrev S21x16384 : Shape := ⟨2, ![21, 16384]⟩
abbrev S1x1x128 : Shape := ⟨3, ![1, 1, 128]⟩
abbrev S1x16384 : Shape := ⟨2, ![1, 16384]⟩
abbrev S256x1 : Shape := ⟨2, ![256, 1]⟩
abbrev S256x16384 : Shape := ⟨2, ![256, 16384]⟩
abbrev S16384 : Shape := ⟨1, ![16384]⟩
abbrev S21x256 : Shape := ⟨2, ![21, 256]⟩
abbrev S25x256 : Shape := ⟨2, ![25, 256]⟩
abbrev S25x16384 : Shape := ⟨2, ![25, 16384]⟩
abbrev S1x21x16384 : Shape := ⟨3, ![1, 21, 16384]⟩
abbrev S1 : Shape := ⟨1, ![1]⟩
abbrev S1x1x1 : Shape := ⟨3, ![1, 1, 1]⟩
abbrev S1x4x16384 : Shape := ⟨3, ![1, 4, 16384]⟩
abbrev S1x1x16384 : Shape := ⟨3, ![1, 1, 16384]⟩
abbrev S4x128 : Shape := ⟨2, ![4, 128]⟩
abbrev S_ : Shape := ⟨0, ![]⟩
abbrev S128 : Shape := ⟨1, ![128]⟩

abbrev nBuf : Space → Nat
  | .hbm => 25
  | .vmem => 11
  | .smem => 0
  | _ => 0

abbrev bufTy : (tb : Table) → Fin (tcTables nBuf tb) → BufTy
  | .hbm, ⟨0, _⟩ => ⟨S65536x21, .f32⟩
  | .hbm, ⟨1, _⟩ => ⟨S65536x4, .f32⟩
  | .hbm, ⟨2, _⟩ => ⟨S65536x4, .f32⟩
  | .hbm, ⟨3, _⟩ => ⟨S256x4, .f32⟩
  | .hbm, ⟨4, _⟩ => ⟨S256, .i32⟩
  | .hbm, ⟨5, _⟩ => ⟨S1x256, .i32⟩
  | .hbm, ⟨6, _⟩ => ⟨S21x65536, .f32⟩
  | .hbm, ⟨7, _⟩ => ⟨S4x65536, .f32⟩
  | .hbm, ⟨8, _⟩ => ⟨S4x65536, .f32⟩
  | .hbm, ⟨9, _⟩ => ⟨S4x256, .f32⟩
  | .hbm, ⟨10, _⟩ => ⟨S4x1x128, .f32⟩
  | .hbm, ⟨11, _⟩ => ⟨S4x128, .f32⟩
  | .hbm, ⟨12, _⟩ => ⟨S_, .f32⟩
  | .hbm, ⟨13, _⟩ => ⟨S128, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S256x4, .f32⟩
  | .local _ .vmem, ⟨1, _⟩ => ⟨S4x256, .f32⟩
  | .local _ .vmem, ⟨2, _⟩ => ⟨S1x256, .i32⟩
  | .local _ .vmem, ⟨3, _⟩ => ⟨S4x16384, .f32⟩
  | .local _ .vmem, ⟨4, _⟩ => ⟨S4x16384, .f32⟩
  | .local _ .vmem, ⟨5, _⟩ => ⟨S21x16384, .f32⟩
  | .local _ .vmem, ⟨6, _⟩ => ⟨S21x16384, .f32⟩
  | .local _ .vmem, ⟨7, _⟩ => ⟨S4x16384, .f32⟩
  | .local _ .vmem, ⟨8, _⟩ => ⟨S4x16384, .f32⟩
  | .local _ .vmem, ⟨9, _⟩ => ⟨S1x1x128, .f32⟩
  | .local _ .vmem, ⟨10, _⟩ => ⟨S1x1x128, .f32⟩
  | _, _ => ⟨S65536x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S21x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S65536x21 : Shape := ⟨2, ![65536, 21]⟩
abbrev S65536x4 : Shape := ⟨2, ![65536, 4]⟩
abbrev S256x4 : Shape := ⟨2, ![256, 4]⟩
abbrev S256 : Shape := ⟨1, ![256]⟩
abbrev S256x1 : Shape := ⟨2, ![256, 1]⟩
abbrev S65536x1 : Shape := ⟨2, ![65536, 1]⟩
abbrev S65536 : Shape := ⟨1, ![65536]⟩
abbrev S256x2 : Shape := ⟨2, ![256, 2]⟩
abbrev S256x1x2 : Shape := ⟨3, ![256, 1, 2]⟩
abbrev S65536x2 : Shape := ⟨2, ![65536, 2]⟩
abbrev S1x65536x2 : Shape := ⟨3, ![1, 65536, 2]⟩
abbrev S256x65536x2 : Shape := ⟨3, ![256, 65536, 2]⟩
abbrev S_ : Shape := ⟨0, ![]⟩
abbrev S256x65536x1 : Shape := ⟨3, ![256, 65536, 1]⟩
abbrev S256x65536 : Shape := ⟨2, ![256, 65536]⟩
abbrev S1x65536 : Shape := ⟨2, ![1, 65536]⟩
abbrev S1x21 : Shape := ⟨2, ![1, 21]⟩

abbrev nBuf : Space → Nat
  | .hbm => 216
  | .vmem => 0
  | .smem => 0
  | _ => 0

abbrev hbmTy0_0 (i : Nat) : BufTy := match i % 128 with
  | 0 => ⟨S65536x21, .f32⟩
  | 1 => ⟨S65536x4, .f32⟩
  | 2 => ⟨S65536x4, .f32⟩
  | 3 => ⟨S256x4, .f32⟩
  | 4 => ⟨S256, .i32⟩
  | 5 => ⟨S256x1, .f32⟩
  | 6 => ⟨S256, .f32⟩
  | 7 => ⟨S256x1, .f32⟩
  | 8 => ⟨S256, .f32⟩
  | 9 => ⟨S256, .f32⟩
  | 10 => ⟨S256x1, .f32⟩
  | 11 => ⟨S256, .f32⟩
  | 12 => ⟨S256x1, .f32⟩
  | 13 => ⟨S256, .f32⟩
  | 14 => ⟨S256, .f32⟩
  | 15 => ⟨S256, .f32⟩
  | 16 => ⟨S65536x1, .f32⟩
  | 17 => ⟨S65536, .f32⟩
  | 18 => ⟨S65536x1, .f32⟩
  | 19 => ⟨S65536, .f32⟩
  | 20 => ⟨S65536, .f32⟩
  | 21 => ⟨S65536x1, .f32⟩
  | 22 => ⟨S65536, .f32⟩
  | 23 => ⟨S65536x1, .f32⟩
  | 24 => ⟨S65536, .f32⟩
  | 25 => ⟨S65536, .f32⟩
  | 26 => ⟨S65536, .f32⟩
  | 27 => ⟨S256x2, .f32⟩
  | 28 => ⟨S256x1x2, .f32⟩
  | 29 => ⟨S65536x2, .f32⟩
  | 30 => ⟨S1x65536x2, .f32⟩
  | 31 => ⟨S256x65536x2, .f32⟩
  | 32 => ⟨S256x65536x2, .f32⟩
  | 33 => ⟨S256x65536x2, .f32⟩
  | 34 => ⟨S256x2, .f32⟩
  | 35 => ⟨S256x1x2, .f32⟩
  | 36 => ⟨S65536x2, .f32⟩
  | 37 => ⟨S1x65536x2, .f32⟩
  | 38 => ⟨S256x65536x2, .f32⟩
  | 39 => ⟨S256x65536x2, .f32⟩
  | 40 => ⟨S256x65536x2, .f32⟩
  | 41 => ⟨S256x65536x2, .f32⟩
  | 42 => ⟨S_, .f32⟩
  | 43 => ⟨S_, .f32⟩
  | 44 => ⟨S256x65536x2, .f32⟩
  | 45 => ⟨S256x65536x2, .f32⟩
  | 46 => ⟨S256x65536x1, .f32⟩
  | 47 => ⟨S256x65536, .f32⟩
  | 48 => ⟨S256x65536x1, .f32⟩
  | 49 => ⟨S256x65536, .f32⟩
  | 50 => ⟨S256x65536, .f32⟩
  | 51 => ⟨S256x1, .f32⟩
  | 52 => ⟨S1x65536, .f32⟩
  | 53 => ⟨S256x65536, .f32⟩
  | 54 => ⟨S256x65536, .f32⟩
  | 55 => ⟨S256x65536, .f32⟩
  | 56 => ⟨S256x65536, .f32⟩
  | 57 => ⟨S_, .f32⟩
  | 58 => ⟨S256x65536, .f32⟩
  | 59 => ⟨S256x65536, .f32⟩
  | 60 => ⟨S256x65536, .f32⟩
  | 61 => ⟨S_, .f32⟩
  | 62 => ⟨S65536, .f32⟩
  | 63 => ⟨S256x65536, .i32⟩
  | 64 => ⟨S_, .f32⟩
  | 65 => ⟨S_, .i32⟩
  | 66 => ⟨S65536, .f32⟩
  | 67 => ⟨S65536, .i32⟩
  | 68 => ⟨S_, .f32⟩
  | 69 => ⟨S65536, .f32⟩
  | 70 => ⟨S65536, .i1⟩
  | 71 => ⟨S65536, .f32⟩
  | 72 => ⟨S_, .f32⟩
  | 73 => ⟨S_, .f32⟩
  | 74 => ⟨S_, .i32⟩
  | 75 => ⟨S65536, .i32⟩
  | 76 => ⟨S65536, .i1⟩
  | 77 => ⟨S_, .i32⟩
  | 78 => ⟨S65536, .i32⟩
  | 79 => ⟨S65536, .i32⟩
  | 80 => ⟨S65536, .i32⟩
  | 81 => ⟨S65536x1, .i32⟩
  | 82 => ⟨S65536, .i32⟩
  | 83 => ⟨S65536x1, .i32⟩
  | 84 => ⟨S1x21, .i32⟩
  | 85 => ⟨S65536x21, .i32⟩
  | 86 => ⟨S65536x21, .i32⟩
  | 87 => ⟨S65536x21, .i1⟩
  | 88 => ⟨S65536x21, .f32⟩
  | 89 => ⟨S65536x1, .i1⟩
  | 90 => ⟨S_, .f32⟩
  | 91 => ⟨S_, .f32⟩
  | 92 => ⟨S65536x21, .i1⟩
  | 93 => ⟨S65536x21, .f32⟩
  | 94 => ⟨S65536x21, .f32⟩
  | 95 => ⟨S_, .f32⟩
  | 96 => ⟨S65536x21, .f32⟩
  | 97 => ⟨S65536x21, .f32⟩
  | 98 => ⟨S65536x21, .f32⟩
  | 99 => ⟨S65536x21, .f32⟩
  | 100 => ⟨S65536x21, .f32⟩
  | 101 => ⟨S65536x21, .f32⟩
  | 102 => ⟨S65536x21, .f32⟩
  | 103 => ⟨S65536x21, .f32⟩
  | 104 => ⟨S65536x21, .f32⟩
  | 105 => ⟨S65536x21, .f32⟩
  | 106 => ⟨S65536x21, .f32⟩
  | 107 => ⟨S_, .f32⟩
  | 108 => ⟨S65536x21, .f32⟩
  | 109 => ⟨S65536x21, .f32⟩
  | 110 => ⟨S_, .f32⟩
  | 111 => ⟨S65536x21, .f32⟩
  | 112 => ⟨S65536x21, .f32⟩
  | 113 => ⟨S65536x21, .f32⟩
  | 114 => ⟨S_, .f32⟩
  | 115 => ⟨S65536x21, .f32⟩
  | 116 => ⟨S65536x21, .f32⟩
  | 117 => ⟨S_, .f32⟩
  | 118 => ⟨S65536x21, .f32⟩
  | 119 => ⟨S65536x21, .f32⟩
  | 120 => ⟨S65536x21, .f32⟩
  | 121 => ⟨S65536x21, .f32⟩
  | 122 => ⟨S_, .f32⟩
  | 123 => ⟨S65536x21, .f32⟩
  | 124 => ⟨S65536x21, .f32⟩
  | 125 => ⟨S_, .f32⟩
  | 126 => ⟨S65536x21, .f32⟩
  | 127 => ⟨S65536x21, .f32⟩
  | _ => ⟨S65536x21, .f32⟩

abbrev hbmTy0_1 (i : Nat) : BufTy := match i % 128 with
  | 0 => ⟨S_, .f32⟩
  | 1 => ⟨S65536x21, .f32⟩
  | 2 => ⟨S65536x21, .f32⟩
  | 3 => ⟨S65536x21, .f32⟩
  | 4 => ⟨S_, .f32⟩
  | 5 => ⟨S65536x21, .f32⟩
  | 6 => ⟨S65536x21, .f32⟩
  | 7 => ⟨S_, .f32⟩
  | 8 => ⟨S65536x21, .f32⟩
  | 9 => ⟨S65536x21, .f32⟩
  | 10 => ⟨S65536x21, .f32⟩
  | 11 => ⟨S65536x21, .f32⟩
  | 12 => ⟨S_, .f32⟩
  | 13 => ⟨S_, .f32⟩
  | 14 => ⟨S_, .f32⟩
  | 15 => ⟨S_, .i32⟩
  | 16 => ⟨S65536, .i32⟩
  | 17 => ⟨S65536, .i1⟩
  | 18 => ⟨S_, .i32⟩
  | 19 => ⟨S65536, .i32⟩
  | 20 => ⟨S65536, .i32⟩
  | 21 => ⟨S65536, .i32⟩
  | 22 => ⟨S65536x1, .i32⟩
  | 23 => ⟨S65536x4, .f32⟩
  | 24 => ⟨S65536x2, .f32⟩
  | 25 => ⟨S65536x2, .f32⟩
  | 26 => ⟨S65536x2, .f32⟩
  | 27 => ⟨S_, .f32⟩
  | 28 => ⟨S65536x2, .f32⟩
  | 29 => ⟨S65536x2, .f32⟩
  | 30 => ⟨S65536x2, .f32⟩
  | 31 => ⟨S65536x2, .f32⟩
  | 32 => ⟨S65536x2, .f32⟩
  | 33 => ⟨S65536x2, .f32⟩
  | 34 => ⟨S65536x2, .f32⟩
  | 35 => ⟨S65536x2, .f32⟩
  | 36 => ⟨S_, .f32⟩
  | 37 => ⟨S65536x2, .f32⟩
  | 38 => ⟨S65536x2, .f32⟩
  | 39 => ⟨S65536x2, .f32⟩
  | 40 => ⟨S65536x2, .f32⟩
  | 41 => ⟨S65536x2, .f32⟩
  | 42 => ⟨S65536x2, .f32⟩
  | 43 => ⟨S_, .f32⟩
  | 44 => ⟨S65536x2, .f32⟩
  | 45 => ⟨S65536x2, .f32⟩
  | 46 => ⟨S65536x2, .f32⟩
  | 47 => ⟨S_, .f32⟩
  | 48 => ⟨S_, .f32⟩
  | 49 => ⟨S65536x2, .f32⟩
  | 50 => ⟨S65536x2, .f32⟩
  | 51 => ⟨S_, .f32⟩
  | 52 => ⟨S_, .f32⟩
  | 53 => ⟨S65536x2, .f32⟩
  | 54 => ⟨S65536x2, .f32⟩
  | 55 => ⟨S65536x2, .f32⟩
  | 56 => ⟨S65536x2, .f32⟩
  | 57 => ⟨S_, .f32⟩
  | 58 => ⟨S65536x2, .f32⟩
  | 59 => ⟨S65536x2, .f32⟩
  | 60 => ⟨S65536x4, .f32⟩
  | 61 => ⟨S65536x4, .f32⟩
  | 62 => ⟨S65536x4, .f32⟩
  | 63 => ⟨S_, .f32⟩
  | 64 => ⟨S65536x4, .f32⟩
  | 65 => ⟨S65536x4, .i1⟩
  | 66 => ⟨S_, .f32⟩
  | 67 => ⟨S65536x4, .f32⟩
  | 68 => ⟨S65536x4, .f32⟩
  | 69 => ⟨S65536x4, .f32⟩
  | 70 => ⟨S_, .f32⟩
  | 71 => ⟨S65536x4, .f32⟩
  | 72 => ⟨S65536x4, .f32⟩
  | 73 => ⟨S65536x4, .f32⟩
  | 74 => ⟨S65536x1, .i1⟩
  | 75 => ⟨S65536x1, .f32⟩
  | 76 => ⟨S65536x4, .f32⟩
  | 77 => ⟨S65536x4, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | _ => ⟨S65536x21, .f32⟩

abbrev hbmTy (i : Nat) : BufTy := match i / 128 with
  | 0 => hbmTy0_0 i
  | 1 => hbmTy0_1 i
  | _ => ⟨S65536x21, .f32⟩

abbrev bufTy : (tb : Table) → Fin (tcTables nBuf tb) → BufTy
  | .hbm, ⟨i, _⟩ => hbmTy i
  | _, _ => ⟨S65536x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst : Ref sig .tc := ⟨.hbm, 42, rfl⟩
abbrev main_call0_v0 : Ref sig .tc := ⟨.hbm, 43, rfl⟩
abbrev main_call0_v1 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_0 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_1 : Ref sig .tc := ⟨.hbm, 61, rfl⟩
abbrev main_v52 : Ref sig .tc := ⟨.hbm, 62, rfl⟩
abbrev main_call1_v0 : Ref sig .tc := ⟨.hbm, 63, rfl⟩
abbrev main_call1_cst : Ref sig .tc := ⟨.hbm, 64, rfl⟩
abbrev main_call1_c : Ref sig .tc := ⟨.hbm, 65, rfl⟩
abbrev main_call1_v1_0 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_c : Ref sig .tc := ⟨.hbm, 74, rfl⟩
abbrev main_v58 : Ref sig .tc := ⟨.hbm, 75, rfl⟩
abbrev main_v59 : Ref sig .tc := ⟨.hbm, 76, rfl⟩
abbrev main_c_4 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v65 : Ref sig .tc := ⟨.hbm, 88, rfl⟩
abbrev main_v66 : Ref sig .tc := ⟨.hbm, 89, rfl⟩
abbrev main_cst_5 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v67 : Ref sig .tc := ⟨.hbm, 94, rfl⟩
abbrev main_cst_6 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_7 : Ref sig .tc := ⟨.hbm, 107, rfl⟩
abbrev main_v79 : Ref sig .tc := ⟨.hbm, 108, rfl⟩
abbrev main_v80 : Ref sig .tc := ⟨.hbm, 109, rfl⟩
abbrev main_cst_8 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_9 : Ref sig .tc := ⟨.hbm, 114, rfl⟩
abbrev main_v84 : Ref sig .tc := ⟨.hbm, 115, rfl⟩
abbrev main_v85 : Ref sig .tc := ⟨.hbm, 116, rfl⟩
abbrev main_cst_10 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_11 : Ref sig .tc := ⟨.hbm, 122, rfl⟩
abbrev main_v90 : Ref sig .tc := ⟨.hbm, 123, rfl⟩
abbrev main_v91 : Ref sig .tc := ⟨.hbm, 124, rfl⟩
abbrev main_cst_12 : Ref sig .tc := ⟨.hbm, 125, rfl⟩
abbrev main_v92 : Ref sig .tc := ⟨.hbm, 126, rfl⟩
abbrev main_v93 : Ref sig .tc := ⟨.hbm, 127, rfl⟩
abbrev main_cst_13 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_14 : Ref sig .tc := ⟨.hbm, 132, rfl⟩
abbrev main_v97 : Ref sig .tc := ⟨.hbm, 133, rfl⟩
abbrev main_v98 : Ref sig .tc := ⟨.hbm, 134, rfl⟩
abbrev main_cst_15 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_16 : Ref sig .tc := ⟨.hbm, 140, rfl⟩
abbrev main_v103 : Ref sig .tc := ⟨.hbm, 141, rfl⟩
abbrev main_v104 : Ref sig .tc := ⟨.hbm, 142, rfl⟩
abbrev main_c_17 : Ref sig .tc := ⟨.hbm, 143, rfl⟩
abbrev main_v105 : Ref sig .tc := ⟨.hbm, 144, rfl⟩
abbrev main_v106 : Ref sig .tc := ⟨.hbm, 145, rfl⟩
abbrev main_c_18 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_19 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_20 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_21 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_22 : Ref sig .tc := ⟨.hbm, 175, rfl⟩
abbrev main_call4_v0 : Ref sig .tc := ⟨.hbm, 176, rfl⟩
abbrev main_call4_v1 : Ref sig .tc := ⟨.hbm, 177, rfl⟩
abbrev main_v132 : Ref sig .tc := ⟨.hbm, 178, rfl⟩
abbrev main_cst_23 : Ref sig .tc := ⟨.hbm, 179, rfl⟩
abbrev main_call5_v0 : Ref sig .tc := ⟨.hbm, 180, rfl⟩
abbrev main_call5_v1 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_24 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_25 : Ref sig .tc := ⟨.hbm, 191, rfl⟩
abbrev main_v141 : Ref sig .tc := ⟨.hbm, 192, rfl⟩
abbrev main_v142 : Ref sig .tc := ⟨.hbm, 193, rfl⟩
abbrev main_cst_26 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_cst_27 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_cst_28 : Ref sig .tc := ⟨.hbm, 206, rfl⟩
abbrev main_v153 : Ref sig .tc := ⟨.hbm, 207, rfl⟩
abbrev main_cst_29 : Ref sig .tc := ⟨.hbm, 208, rfl⟩
abbrev main_v154 : Ref sig .tc := ⟨.hbm, 209, rfl⟩
abbrev main_v155 : Ref sig .tc := ⟨.hbm, 210, rfl⟩
abbrev main_cst_30 : Ref sig .tc := ⟨.hbm, 211, rfl⟩
abbrev main_v156 : Ref sig .tc := ⟨.hbm, 212, rfl⟩
abbrev main_cst_31 : Ref sig .tc := ⟨.hbm, 213, rfl⟩
abbrev main_v157 : Ref sig .tc := ⟨.hbm, 214, rfl⟩
abbrev main_v158 : Ref sig .tc := ⟨.hbm, 215, rfl⟩

abbrev nD : Nat := 1
abbrev τ : Topo := Topo.v7x

variable {F : FTy → Type} [FloatOps F]
-- ==== Proof.RefStages.lean ====
module

public import proofs.«01_k».proof.Proof.Gen.ReferenceIdeal
public import Idealize.ShloMosaic.Lib.StableHlo.Run
public import Idealize.ShloMosaic.Lib.Pipeline.Frame
public import Idealize.ShloMosaic.Lib.Quiescent

@[expose] public section

/-!
The reference cut into stages: each definition is one array the reference computes, as a function of the arrays
it is computed from.
-/

set_option Elab.async false

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- The area of each target box. -/
def st_v10 (arg3 : FVec F S256x4 .f32) : FVec F S256 .f32 :=
  have v0 : FVec F S256x1 .f32 := extractStridedSlice S256x1 ![0, 2] arg3 slices_S256x4_S256x1_0_2
  have v1 : FVec F S256 .f32 := shapeCast S256 v0 shapeCasts_S256x1_S256
  have v2 : FVec F S256x1 .f32 := extractStridedSlice S256x1 ![0, 0] arg3 slices_S256x4_S256x1_0_0
  have v3 : FVec F S256 .f32 := shapeCast S256 v2 shapeCasts_S256x1_S256
  have v4 : FVec F S256 .f32 := subf v1 v3
  have v5 : FVec F S256x1 .f32 := extractStridedSlice S256x1 ![0, 3] arg3 slices_S256x4_S256x1_0_3
  have v6 : FVec F S256 .f32 := shapeCast S256 v5 shapeCasts_S256x1_S256
  have v7 : FVec F S256x1 .f32 := extractStridedSlice S256x1 ![0, 1] arg3 slices_S256x4_S256x1_0_1
  have v8 : FVec F S256 .f32 := shapeCast S256 v7 shapeCasts_S256x1_S256
  have v9 : FVec F S256 .f32 := subf v6 v8
  mulf v4 v9

/-- The area of each anchor. -/
def st_v21 (arg2 : FVec F S65536x4 .f32) : FVec F S65536 .f32 :=
  have v11 : FVec F S65536x1 .f32 := extractStridedSlice S65536x1 ![0, 2] arg2 slices_S65536x4_S65536x1_0_2
  have v12 : FVec F S65536 .f32 := shapeCast S65536 v11 shapeCasts_S65536x1_S65536
  have v13 : FVec F S65536x1 .f32 := extractStridedSlice S65536x1 ![0, 0] arg2 slices_S65536x4_S65536x1_0_0
  have v14 : FVec F S65536 .f32 := shapeCast S65536 v13 shapeCasts_S65536x1_S65536
  have v15 : FVec F S65536 .f32 := subf v12 v14
  have v16 : FVec F S65536x1 .f32 := extractStridedSlice S65536x1 ![0, 3] arg2 slices_S65536x4_S65536x1_0_3
  have v17 : FVec F S65536 .f32 := shapeCast S65536 v16 shapeCasts_S65536x1_S65536
  have v18 : FVec F S65536x1 .f32 := extractStridedSlice S65536x1 ![0, 1] arg2 slices_S65536x4_S65536x1_0_1
  have v19 : FVec F S65536 .f32 := shapeCast S65536 v18 shapeCasts_S65536x1_S65536
  have v20 : FVec F S65536 .f32 := subf v17 v19
  mulf v15 v20

/-- The two extents of each overlap, cut off at zero. -/
def st_v37 (arg2 : FVec F S65536x4 .f32) (arg3 : FVec F S256x4 .f32) : FVec F S256x65536x2 .f32 :=
  have cst : FVec F S_ .f32 := (constant S_ .f32 0x00000000#32)
  have call0_v0 : FVec F S_ .f32 := cst
  have call0_v1 : FVec F S256x65536x2 .f32 := broadcastInDim S256x65536x2 ![] bcast_S_S256x65536x2 call0_v0
  have v29 : FVec F S256x2 .f32 := extractStridedSlice S256x2 ![0, 2] arg3 slices_S256x4_S256x2_0_2
  have v30 : FVec F S256x1x2 .f32 := broadcastInDim S256x1x2 ![0, 2] bcast_S256x2_S256x1x2_0_2 v29
  have v33 : FVec F S256x65536x2 .f32 := broadcastInDim S256x65536x2 ![0, 1, 2] bcast_S256x1x2_S256x65536x2_0_1_2 v30
  have v31 : FVec F S65536x2 .f32 := extractStridedSlice S65536x2 ![0, 2] arg2 slices_S65536x4_S65536x2_0_2
  have v32 : FVec F S1x65536x2 .f32 := broadcastInDim S1x65536x2 ![1, 2] bcast_S65536x2_S1x65536x2_1_2 v31
  have v34 : FVec F S256x65536x2 .f32 := broadcastInDim S256x65536x2 ![0, 1, 2] bcast_S1x65536x2_S256x65536x2_0_1_2 v32
  have v35 : FVec F S256x65536x2 .f32 := minimumf v33 v34
  have v22 : FVec F S256x2 .f32 := extractStridedSlice S256x2 ![0, 0] arg3 slices_S256x4_S256x2_0_0
  have v23 : FVec F S256x1x2 .f32 := broadcastInDim S256x1x2 ![0, 2] bcast_S256x2_S256x1x2_0_2 v22
  have v26 : FVec F S256x65536x2 .f32 := broadcastInDim S256x65536x2 ![0, 1, 2] bcast_S256x1x2_S256x65536x2_0_1_2 v23
  have v24 : FVec F S65536x2 .f32 := extractStridedSlice S65536x2 ![0, 0] arg2 slices_S65536x4_S65536x2_0_0
  have v25 : FVec F S1x65536x2 .f32 := broadcastInDim S1x65536x2 ![1, 2] bcast_S65536x2_S1x65536x2_1_2 v24
  have v27 : FVec F S256x65536x2 .f32 := broadcastInDim S256x65536x2 ![0, 1, 2] bcast_S1x65536x2_S256x65536x2_0_1_2 v25
  have v28 : FVec F S256x65536x2 .f32 := maximumf v26 v27
  have v36 : FVec F S256x65536x2 .f32 := subf v35 v28
  maximumf call0_v1 v36

/-- The IoU of every target with every anchor. -/
def st_v51 (v10 : FVec F S256 .f32) (v21 : FVec F S65536 .f32) (v37 : FVec F S256x65536x2 .f32) : FVec F S256x65536 .f32 :=
  have v38 : FVec F S256x65536x1 .f32 := extractStridedSlice S256x65536x1 ![0, 0, 0] v37 slices_S256x65536x2_S256x65536x1_0_0_0
  have v39 : FVec F S256x65536 .f32 := shapeCast S256x65536 v38 shapeCasts_S256x65536x1_S256x65536
  have v40 : FVec F S256x65536x1 .f32 := extractStridedSlice S256x65536x1 ![0, 0, 1] v37 slices_S256x65536x2_S256x65536x1_0_0_1
  have v41 : FVec F S256x65536 .f32 := shapeCast S256x65536 v40 shapeCasts_S256x65536x1_S256x65536
  have v42 : FVec F S256x65536 .f32 := mulf v39 v41
  have v43 : FVec F S256x1 .f32 := broadcastInDim S256x1 ![0] bcast_S256_S256x1_0 v10
  have v45 : FVec F S256x65536 .f32 := broadcastInDim S256x65536 ![0, 1] bcast_S256x1_S256x65536_0_1 v43
  have v44 : FVec F S1x65536 .f32 := broadcastInDim S1x65536 ![1] bcast_S65536_S1x65536_1 v21
  have v46 : FVec F S256x65536 .f32 := broadcastInDim S256x65536 ![0, 1] bcast_S1x65536_S256x65536_0_1 v44
  have v47 : FVec F S256x65536 .f32 := addf v45 v46
  have v48 : FVec F S256x65536 .f32 := subf v47 v42
  have cst_0 : FVec F S_ .f32 := (constant S_ .f32 0x322BCC77#32)
  have v49 : FVec F S256x65536 .f32 := broadcastInDim S256x65536 ![] bcast_S_S256x65536 cst_0
  have v50 : FVec F S256x65536 .f32 := addf v48 v49
  Host.divf v42 v50

/-- The index of the best target of each anchor. -/
def st_v53 (v51 : FVec F S256x65536 .f32) : IVec S65536 32 :=
  have call1_v0 : IVec S256x65536 32 := (iotaInDim S256x65536 32 0)
  have call1_cst : FVec F S_ .f32 := (constant S_ .f32 0xFF800000#32)
  have call1_c : IVec S_ 32 := (constantI S_ 32 0#32)
  fun j => (Host.argReduce reducer_argmax_f32_i32 v51 call1_v0 call1_cst call1_c reducesTo_S256x65536_S65536_d0 h_S_ j).2

/-- Which anchors match. -/
def st_v55 (v51 : FVec F S256x65536 .f32) : IVec S65536 1 :=
  have cst_1 : FVec F S_ .f32 := (constant S_ .f32 0xFF800000#32)
  have v52 : FVec F S65536 .f32 := Host.reduce FloatOps.maximumf v51 cst_1 reducesTo_S256x65536_S65536_d0 h_S_
  have cst_2 : FVec F S_ .f32 := (constant S_ .f32 0x3F000000#32)
  have v54 : FVec F S65536 .f32 := broadcastInDim S65536 ![] bcast_S_S65536 cst_2
  cmpf .oge v52 v54

/-- The number of matching anchors. -/
def st_v57 (v55 : IVec S65536 1) : FVec F S_ .f32 :=
  have v56 : FVec F S65536 .f32 := uitofp .f32 v55
  have cst_3 : FVec F S_ .f32 := (constant S_ .f32 0x00000000#32)
  Host.reduceAdd v56 cst_3 reducesTo_S65536_S_d0 h_S_

/-- The one-hot row of the best target's label. -/
def st_v65 (arg4 : IVec S256 32) (v53 : IVec S65536 32) : FVec F S65536x21 .f32 :=
  have c : IVec S_ 32 := (constantI S_ 32 0#32)
  have v58 : IVec S65536 32 := broadcastInDim S65536 ![] bcast_S_S65536 c
  have v59 : IVec S65536 1 := cmpi .slt v53 v58
  have c_4 : IVec S_ 32 := (constantI S_ 32 256#32)
  have v60 : IVec S65536 32 := broadcastInDim S65536 ![] bcast_S_S65536 c_4
  have v61 : IVec S65536 32 := addi v53 v60
  have v62 : IVec S65536 32 := select v59 v61 v53
  have v63 : IVec S65536x1 32 := broadcastInDim S65536x1 ![0] bcast_S65536_S65536x1_0 v62
  have v64 : IVec S65536 32 := Host.gather gather_S256_S65536x1_S65536_n_0_n_n_0_1_1 arg4 v63
  have call2_v0 : IVec S65536x1 32 := broadcastInDim S65536x1 ![0] bcast_S65536_S65536x1_0 v64
  have call2_v2 : IVec S65536x21 32 := broadcastInDim S65536x21 ![0, 1] bcast_S65536x1_S65536x21_0_1 call2_v0
  have call2_v1 : IVec S1x21 32 := (iotaInDim S1x21 32 1)
  have call2_v3 : IVec S65536x21 32 := broadcastInDim S65536x21 ![0, 1] bcast_S1x21_S65536x21_0_1 call2_v1
  have call2_v4 : IVec S65536x21 1 := cmpi .eq call2_v2 call2_v3
  uitofp .f32 call2_v4

/-- The class targets. -/
def st_v67 (v55 : IVec S65536 1) (v65 : FVec F S65536x21 .f32) : FVec F S65536x21 .f32 :=
  have v66 : IVec S65536x1 1 := broadcastInDim S65536x1 ![0] bcast_S65536_S65536x1_0 v55
  have call3_v1 : IVec S65536x21 1 := broadcastInDim S65536x21 ![0, 1] bcast_S65536x1_S65536x21_0_1 v66
  have cst_5 : FVec F S_ .f32 := (constant S_ .f32 0x00000000#32)
  have call3_v0 : FVec F S_ .f32 := cst_5
  have call3_v2 : FVec F S65536x21 .f32 := broadcastInDim S65536x21 ![] bcast_S_S65536x21 call3_v0
  select call3_v1 v65 call3_v2

/-- The cross entropy of each logit. -/
def st_v76 (arg0 : FVec F S65536x21 .f32) (v67 : FVec F S65536x21 .f32) : FVec F S65536x21 .f32 :=
  have cst_6 : FVec F S_ .f32 := (constant S_ .f32 0x00000000#32)
  have v68 : FVec F S65536x21 .f32 := broadcastInDim S65536x21 ![] bcast_S_S65536x21 cst_6
  have v69 : FVec F S65536x21 .f32 := maximumf arg0 v68
  have v70 : FVec F S65536x21 .f32 := mulf arg0 v67
  have v71 : FVec F S65536x21 .f32 := subf v69 v70
  have v72 : FVec F S65536x21 .f32 := Host.absf arg0
  have v73 : FVec F S65536x21 .f32 := Host.negf v72
  have v74 : FVec F S65536x21 .f32 := Host.exp v73
  have v75 : FVec F S65536x21 .f32 := Host.log1p v74
  addf v71 v75

/-- The probability of each logit. -/
def st_v82 (arg0 : FVec F S65536x21 .f32) : FVec F S65536x21 .f32 :=
  have cst_8 : FVec F S_ .f32 := (constant S_ .f32 0x3F800000#32)
  have v81 : FVec F S65536x21 .f32 := broadcastInDim S65536x21 ![] bcast_S_S65536x21 cst_8
  have cst_7 : FVec F S_ .f32 := (constant S_ .f32 0x3F800000#32)
  have v79 : FVec F S65536x21 .f32 := broadcastInDim S65536x21 ![] bcast_S_S65536x21 cst_7
  have v77 : FVec F S65536x21 .f32 := Host.negf arg0
  have v78 : FVec F S65536x21 .f32 := Host.exp v77
  have v80 : FVec F S65536x21 .f32 := addf v79 v78
  Host.divf v81 v80

/-- The probability given to the right answer. -/
def st_v89 (v67 : FVec F S65536x21 .f32) (v82 : FVec F S65536x21 .f32) : FVec F S65536x21 .f32 :=
  have v83 : FVec F S65536x21 .f32 := mulf v82 v67
  have cst_9 : FVec F S_ .f32 := (constant S_ .f32 0x3F800000#32)
  have v84 : FVec F S65536x21 .f32 := broadcastInDim S65536x21 ![] bcast_S_S65536x21 cst_9
  have v85 : FVec F S65536x21 .f32 := subf v84 v82
  have cst_10 : FVec F S_ .f32 := (constant S_ .f32 0x3F800000#32)
  have v86 : FVec F S65536x21 .f32 := broadcastInDim S65536x21 ![] bcast_S_S65536x21 cst_10
  have v87 : FVec F S65536x21 .f32 := subf v86 v67
  have v88 : FVec F S65536x21 .f32 := mulf v85 v87
  addf v83 v88

/-- The class weight. -/
def st_v96 (v67 : FVec F S65536x21 .f32) : FVec F S65536x21 .f32 :=
  have cst_11 : FVec F S_ .f32 := (constant S_ .f32 0x3E800000#32)
  have v90 : FVec F S65536x21 .f32 := broadcastInDim S65536x21 ![] bcast_S_S65536x21 cst_11
  have v91 : FVec F S65536x21 .f32 := mulf v90 v67
  have cst_13 : FVec F S_ .f32 := (constant S_ .f32 0x3F400000#32)
  have v94 : FVec F S65536x21 .f32 := broadcastInDim S65536x21 ![] bcast_S_S65536x21 cst_13
  have cst_12 : FVec F S_ .f32 := (constant S_ .f32 0x3F800000#32)
  have v92 : FVec F S65536x21 .f32 := broadcastInDim S65536x21 ![] bcast_S_S65536x21 cst_12
  have v93 : FVec F S65536x21 .f32 := subf v92 v67
  have v95 : FVec F S65536x21 .f32 := mulf v94 v93
  addf v91 v95

/-- The class weight times the focal factor. -/
def st_v101 (v89 : FVec F S65536x21 .f32) (v96 : FVec F S65536x21 .f32) : FVec F S65536x21 .f32 :=
  have cst_14 : FVec F S_ .f32 := (constant S_ .f32 0x3F800000#32)
  have v97 : FVec F S65536x21 .f32 := broadcastInDim S65536x21 ![] bcast_S_S65536x21 cst_14
  have v98 : FVec F S65536x21 .f32 := subf v97 v89
  have cst_15 : FVec F S_ .f32 := (constant S_ .f32 0x40000000#32)
  have v99 : FVec F S65536x21 .f32 := broadcastInDim S65536x21 ![] bcast_S_S65536x21 cst_15
  have v100 : FVec F S65536x21 .f32 := Host.powf v98 v99
  mulf v96 v100

/-- The focal loss. -/
def st_v104 (v57 : FVec F S_ .f32) (v76 : FVec F S65536x21 .f32) (v101 : FVec F S65536x21 .f32) : FVec F S_ .f32 :=
  have v102 : FVec F S65536x21 .f32 := mulf v101 v76
  have cst_16 : FVec F S_ .f32 := (constant S_ .f32 0x00000000#32)
  have v103 : FVec F S_ .f32 := Host.reduceAdd v102 cst_16 reducesTo_S65536x21_S_d0_1 h_S_
  Host.divf v103 v57

/-- The box of the best target of each anchor. -/
def st_v111 (arg3 : FVec F S256x4 .f32) (v53 : IVec S65536 32) : FVec F S65536x4 .f32 :=
  have c_17 : IVec S_ 32 := (constantI S_ 32 0#32)
  have v105 : IVec S65536 32 := broadcastInDim S65536 ![] bcast_S_S65536 c_17
  have v106 : IVec S65536 1 := cmpi .slt v53 v105
  have c_18 : IVec S_ 32 := (constantI S_ 32 256#32)
  have v107 : IVec S65536 32 := broadcastInDim S65536 ![] bcast_S_S65536 c_18
  have v108 : IVec S65536 32 := addi v53 v107
  have v109 : IVec S65536 32 := select v106 v108 v53
  have v110 : IVec S65536x1 32 := broadcastInDim S65536x1 ![0] bcast_S65536_S65536x1_0 v109
  Host.gather gather_S256x4_S65536x1_S65536x4_1_0_n_n_0_1_14 arg3 v110

/-- The extents of the matched box. -/
def st_v119 (v111 : FVec F S65536x4 .f32) : FVec F S65536x2 .f32 :=
  have v117 : FVec F S65536x2 .f32 := extractStridedSlice S65536x2 ![0, 2] v111 slices_S65536x4_S65536x2_0_2
  have v118 : FVec F S65536x2 .f32 := extractStridedSlice S65536x2 ![0, 0] v111 slices_S65536x4_S65536x2_0_0
  subf v117 v118

/-- The extents of each anchor. -/
def st_v127 (arg2 : FVec F S65536x4 .f32) : FVec F S65536x2 .f32 :=
  have v125 : FVec F S65536x2 .f32 := extractStridedSlice S65536x2 ![0, 2] arg2 slices_S65536x4_S65536x2_0_2
  have v126 : FVec F S65536x2 .f32 := extractStridedSlice S65536x2 ![0, 0] arg2 slices_S65536x4_S65536x2_0_0
  subf v125 v126

/-- The encoded centre offsets. -/
def st_v131 (arg2 : FVec F S65536x4 .f32) (v111 : FVec F S65536x4 .f32) : FVec F S65536x2 .f32 :=
  have v112 : FVec F S65536x2 .f32 := extractStridedSlice S65536x2 ![0, 0] v111 slices_S65536x4_S65536x2_0_0
  have v113 : FVec F S65536x2 .f32 := extractStridedSlice S65536x2 ![0, 2] v111 slices_S65536x4_S65536x2_0_2
  have v114 : FVec F S65536x2 .f32 := addf v112 v113
  have cst_19 : FVec F S_ .f32 := (constant S_ .f32 0x3F000000#32)
  have v115 : FVec F S65536x2 .f32 := broadcastInDim S65536x2 ![] bcast_S_S65536x2 cst_19
  have v116 : FVec F S65536x2 .f32 := mulf v114 v115
  have v120 : FVec F S65536x2 .f32 := extractStridedSlice S65536x2 ![0, 0] arg2 slices_S65536x4_S65536x2_0_0
  have v121 : FVec F S65536x2 .f32 := extractStridedSlice S65536x2 ![0, 2] arg2 slices_S65536x4_S65536x2_0_2
  have v122 : FVec F S65536x2 .f32 := addf v120 v121
  have cst_20 : FVec F S_ .f32 := (constant S_ .f32 0x3F000000#32)
  have v123 : FVec F S65536x2 .f32 := broadcastInDim S65536x2 ![] bcast_S_S65536x2 cst_20
  have v124 : FVec F S65536x2 .f32 := mulf v122 v123
  have v128 : FVec F S65536x2 .f32 := subf v116 v124
  have v125 : FVec F S65536x2 .f32 := extractStridedSlice S65536x2 ![0, 2] arg2 slices_S65536x4_S65536x2_0_2
  have v126 : FVec F S65536x2 .f32 := extractStridedSlice S65536x2 ![0, 0] arg2 slices_S65536x4_S65536x2_0_0
  have v127 : FVec F S65536x2 .f32 := subf v125 v126
  have cst_21 : FVec F S_ .f32 := (constant S_ .f32 0x3DCCCCCD#32)
  have v129 : FVec F S65536x2 .f32 := broadcastInDim S65536x2 ![] bcast_S_S65536x2 cst_21
  have v130 : FVec F S65536x2 .f32 := mulf v127 v129
  Host.divf v128 v130

/-- The encoded box of each anchor. -/
def st_v138 (v119 : FVec F S65536x2 .f32) (v127 : FVec F S65536x2 .f32) (v131 : FVec F S65536x2 .f32) : FVec F S65536x4 .f32 :=
  have cst_22 : FVec F S_ .f32 := (constant S_ .f32 0x358637BD#32)
  have call4_v0 : FVec F S_ .f32 := cst_22
  have call4_v1 : FVec F S65536x2 .f32 := broadcastInDim S65536x2 ![] bcast_S_S65536x2 call4_v0
  have v132 : FVec F S65536x2 .f32 := maximumf call4_v1 v119
  have cst_23 : FVec F S_ .f32 := (constant S_ .f32 0x358637BD#32)
  have call5_v0 : FVec F S_ .f32 := cst_23
  have call5_v1 : FVec F S65536x2 .f32 := broadcastInDim S65536x2 ![] bcast_S_S65536x2 call5_v0
  have v133 : FVec F S65536x2 .f32 := maximumf call5_v1 v127
  have v134 : FVec F S65536x2 .f32 := Host.divf v132 v133
  have v135 : FVec F S65536x2 .f32 := Host.log v134
  have cst_24 : FVec F S_ .f32 := (constant S_ .f32 0x3E4CCCCD#32)
  have v136 : FVec F S65536x2 .f32 := broadcastInDim S65536x2 ![] bcast_S_S65536x2 cst_24
  have v137 : FVec F S65536x2 .f32 := Host.divf v135 v136
  concatenate S65536x4 1 [⟨S65536x2, v131⟩, ⟨S65536x2, v137⟩] concatenates_S65536x2_S65536x2_S65536x4_d1

/-- The smooth L1 loss of each coordinate. -/
def st_v148 (arg1 : FVec F S65536x4 .f32) (v138 : FVec F S65536x4 .f32) : FVec F S65536x4 .f32 :=
  have v139 : FVec F S65536x4 .f32 := subf arg1 v138
  have v140 : FVec F S65536x4 .f32 := Host.absf v139
  have cst_25 : FVec F S_ .f32 := (constant S_ .f32 0x3F800000#32)
  have v141 : FVec F S65536x4 .f32 := broadcastInDim S65536x4 ![] bcast_S_S65536x4 cst_25
  have v142 : IVec S65536x4 1 := cmpf .olt v140 v141
  have cst_26 : FVec F S_ .f32 := (constant S_ .f32 0x3F000000#32)
  have v143 : FVec F S65536x4 .f32 := broadcastInDim S65536x4 ![] bcast_S_S65536x4 cst_26
  have v144 : FVec F S65536x4 .f32 := mulf v143 v140
  have v145 : FVec F S65536x4 .f32 := mulf v144 v140
  have cst_27 : FVec F S_ .f32 := (constant S_ .f32 0x3F000000#32)
  have v146 : FVec F S65536x4 .f32 := broadcastInDim S65536x4 ![] bcast_S_S65536x4 cst_27
  have v147 : FVec F S65536x4 .f32 := subf v140 v146
  select v142 v145 v147

/-- The matches as a column. -/
def st_v149 (v55 : IVec S65536 1) : IVec S65536x1 1 :=
  broadcastInDim S65536x1 ![0] bcast_S65536_S65536x1_0 v55

/-- The class loss returned. -/
def st_v156 (v104 : FVec F S_ .f32) : FVec F S_ .f32 :=
  have cst_30 : FVec F S_ .f32 := (constant S_ .f32 0x3F800000#32)
  mulf v104 cst_30

/-- The box loss returned. -/
def st_v157 (v57 : FVec F S_ .f32) (v148 : FVec F S65536x4 .f32) (v149 : IVec S65536x1 1) : FVec F S_ .f32 :=
  have v150 : FVec F S65536x1 .f32 := uitofp .f32 v149
  have v151 : FVec F S65536x4 .f32 := broadcastInDim S65536x4 ![0, 1] bcast_S65536x1_S65536x4_0_1 v150
  have v152 : FVec F S65536x4 .f32 := mulf v148 v151
  have cst_28 : FVec F S_ .f32 := (constant S_ .f32 0x00000000#32)
  have v153 : FVec F S_ .f32 := Host.reduceAdd v152 cst_28 reducesTo_S65536x4_S_d0_1 h_S_
  have cst_29 : FVec F S_ .f32 := (constant S_ .f32 0x40800000#32)
  have v154 : FVec F S_ .f32 := mulf v57 cst_29
  have v155 : FVec F S_ .f32 := Host.divf v153 v154
  have cst_31 : FVec F S_ .f32 := (constant S_ .f32 0x3F800000#32)
  mulf v155 cst_31

/-- The sum of both losses. -/
def st_v158 (v57 : FVec F S_ .f32) (v104 : FVec F S_ .f32) (v148 : FVec F S65536x4 .f32) (v149 : IVec S65536x1 1) : FVec F S_ .f32 :=
  have cst_30 : FVec F S_ .f32 := (constant S_ .f32 0x3F800000#32)
  have v156 : FVec F S_ .f32 := mulf v104 cst_30
  have v150 : FVec F S65536x1 .f32 := uitofp .f32 v149
  have v151 : FVec F S65536x4 .f32 := broadcastInDim S65536x4 ![0, 1] bcast_S65536x1_S65536x4_0_1 v150
  have v152 : FVec F S65536x4 .f32 := mulf v148 v151
  have cst_28 : FVec F S_ .f32 := (constant S_ .f32 0x00000000#32)
  have v153 : FVec F S_ .f32 := Host.reduceAdd v152 cst_28 reducesTo_S65536x4_S_d0_1 h_S_
  have cst_29 : FVec F S_ .f32 := (constant S_ .f32 0x40800000#32)
  have v154 : FVec F S_ .f32 := mulf v57 cst_29
  have v155 : FVec F S_ .f32 := Host.divf v153 v154
  have cst_31 : FVec F S_ .f32 := (constant S_ .f32 0x3F800000#32)
  have v157 : FVec F S_ .f32 := mulf v155 cst_31
  addf v156 v157

/-! ## The same arrays over the five arguments -/

/-- The area of each target box, over the arguments. -/
def res_v10 (arg3 : FVec F S256x4 .f32) : FVec F S256 .f32 :=
  st_v10 arg3

/-- The area of each anchor, over the arguments. -/
def res_v21 (arg2 : FVec F S65536x4 .f32) : FVec F S65536 .f32 :=
  st_v21 arg2

/-- The two extents of each overlap, cut off at zero, over the arguments. -/
def res_v37 (arg2 : FVec F S65536x4 .f32) (arg3 : FVec F S256x4 .f32) : FVec F S256x65536x2 .f32 :=
  st_v37 arg2 arg3

/-- The IoU of every target with every anchor, over the arguments. -/
def res_v51 (arg2 : FVec F S65536x4 .f32) (arg3 : FVec F S256x4 .f32) : FVec F S256x65536 .f32 :=
  st_v51 (res_v10 arg3) (res_v21 arg2) (res_v37 arg2 arg3)

/-- The index of the best target of each anchor, over the arguments. -/
def res_v53 (arg2 : FVec F S65536x4 .f32) (arg3 : FVec F S256x4 .f32) : IVec S65536 32 :=
  st_v53 (res_v51 arg2 arg3)

/-- Which anchors match, over the arguments. -/
def res_v55 (arg2 : FVec F S65536x4 .f32) (arg3 : FVec F S256x4 .f32) : IVec S65536 1 :=
  st_v55 (res_v51 arg2 arg3)

/-- The number of matching anchors, over the arguments. -/
def res_v57 (arg2 : FVec F S65536x4 .f32) (arg3 : FVec F S256x4 .f32) : FVec F S_ .f32 :=
  st_v57 (res_v55 arg2 arg3)

/-- The one-hot row of the best target's label, over the arguments. -/
def res_v65 (arg2 : FVec F S65536x4 .f32) (arg3 : FVec F S256x4 .f32) (arg4 : IVec S256 32) : FVec F S65536x21 .f32 :=
  st_v65 arg4 (res_v53 arg2 arg3)

/-- The class targets, over the arguments. -/
def res_v67 (arg2 : FVec F S65536x4 .f32) (arg3 : FVec F S256x4 .f32) (arg4 : IVec S256 32) : FVec F S65536x21 .f32 :=
  st_v67 (res_v55 arg2 arg3) (res_v65 arg2 arg3 arg4)

/-- The cross entropy of each logit, over the arguments. -/
def res_v76 (arg0 : FVec F S65536x21 .f32) (arg2 : FVec F S65536x4 .f32) (arg3 : FVec F S256x4 .f32) (arg4 : IVec S256 32) : FVec F S65536x21 .f32 :=
  st_v76 arg0 (res_v67 arg2 arg3 arg4)

/-- The probability of each logit, over the arguments. -/
def res_v82 (arg0 : FVec F S65536x21 .f32) : FVec F S65536x21 .f32 :=
  st_v82 arg0

/-- The probability given to the right answer, over the arguments. -/
def res_v89 (arg0 : FVec F S65536x21 .f32) (arg2 : FVec F S65536x4 .f32) (arg3 : FVec F S256x4 .f32) (arg4 : IVec S256 32) : FVec F S65536x21 .f32 :=
  st_v89 (res_v67 arg2 arg3 arg4) (res_v82 arg0)

/-- The class weight, over the arguments. -/
def res_v96 (arg2 : FVec F S65536x4 .f32) (arg3 : FVec F S256x4 .f32) (arg4 : IVec S256 32) : FVec F S65536x21 .f32 :=
  st_v96 (res_v67 arg2 arg3 arg4)

/-- The class weight times the focal factor, over the arguments. -/
def res_v101 (arg0 : FVec F S65536x21 .f32) (arg2 : FVec F S65536x4 .f32) (arg3 : FVec F S256x4 .f32) (arg4 : IVec S256 32) : FVec F S65536x21 .f32 :=
  st_v101 (res_v89 arg0 arg2 arg3 arg4) (res_v96 arg2 arg3 arg4)

/-- The focal loss, over the arguments. -/
def res_v104 (arg0 : FVec F S65536x21 .f32) (arg2 : FVec F S65536x4 .f32) (arg3 : FVec F S256x4 .f32) (arg4 : IVec S256 32) : FVec F S_ .f32 :=
  st_v104 (res_v57 arg2 arg3) (res_v76 arg0 arg2 arg3 arg4) (res_v101 arg0 arg2 arg3 arg4)

/-- The box of the best target of each anchor, over the arguments. -/
def res_v111 (arg2 : FVec F S65536x4 .f32) (arg3 : FVec F S256x4 .f32) : FVec F S65536x4 .f32 :=
  st_v111 arg3 (res_v53 arg2 arg3)

/-- The extents of the matched box, over the arguments. -/
def res_v119 (arg2 : FVec F S65536x4 .f32) (arg3 : FVec F S256x4 .f32) : FVec F S65536x2 .f32 :=
  st_v119 (res_v111 arg2 arg3)

/-- The extents of each anchor, over the arguments. -/
def res_v127 (arg2 : FVec F S65536x4 .f32) : FVec F S65536x2 .f32 :=
  st_v127 arg2

/-- The encoded centre offsets, over the arguments. -/
def res_v131 (arg2 : FVec F S65536x4 .f32) (arg3 : FVec F S256x4 .f32) : FVec F S65536x2 .f32 :=
  st_v131 arg2 (res_v111 arg2 arg3)

/-- The encoded box of each anchor, over the arguments. -/
def res_v138 (arg2 : FVec F S65536x4 .f32) (arg3 : FVec F S256x4 .f32) : FVec F S65536x4 .f32 :=
  st_v138 (res_v119 arg2 arg3) (res_v127 arg2) (res_v131 arg2 arg3)

/-- The smooth L1 loss of each coordinate, over the arguments. -/
def res_v148 (arg1 : FVec F S65536x4 .f32) (arg2 : FVec F S65536x4 .f32) (arg3 : FVec F S256x4 .f32) : FVec F S65536x4 .f32 :=
  st_v148 arg1 (res_v138 arg2 arg3)

/-- The matches as a column, over the arguments. -/
def res_v149 (arg2 : FVec F S65536x4 .f32) (arg3 : FVec F S256x4 .f32) : IVec S65536x1 1 :=
  st_v149 (res_v55 arg2 arg3)

/-- The class loss returned, over the arguments. -/
def res_v156 (arg0 : FVec F S65536x21 .f32) (arg2 : FVec F S65536x4 .f32) (arg3 : FVec F S256x4 .f32) (arg4 : IVec S256 32) : FVec F S_ .f32 :=
  st_v156 (res_v104 arg0 arg2 arg3 arg4)

/-- The box loss returned, over the arguments. -/
def res_v157 (arg1 : FVec F S65536x4 .f32) (arg2 : FVec F S65536x4 .f32) (arg3 : FVec F S256x4 .f32) : FVec F S_ .f32 :=
  st_v157 (res_v57 arg2 arg3) (res_v148 arg1 arg2 arg3) (res_v149 arg2 arg3)

/-- The sum of both losses, over the arguments. -/
def res_v158 (arg0 : FVec F S65536x21 .f32) (arg1 : FVec F S65536x4 .f32) (arg2 : FVec F S65536x4 .f32) (arg3 : FVec F S256x4 .f32) (arg4 : IVec S256 32) : FVec F S_ .f32 :=
  st_v158 (res_v57 arg2 arg3) (res_v104 arg0 arg2 arg3 arg4) (res_v148 arg1 arg2 arg3) (res_v149 arg2 arg3)

end Cert.ReferenceIdeal.Steps
-- ==== Proof.RefRun.lean ====
module

public import proofs.«01_k».proof.Proof.Gen.ReferenceIdeal
public import Idealize.ShloMosaic.Lib.StableHlo.Run
public import Idealize.ShloMosaic.Lib.Pipeline.Frame
public import Idealize.ShloMosaic.Lib.Quiescent
public import proofs.«01_k».proof.Proof.RefStages

@[expose] public section

/-!
The run of the reference: its operations as a list, in windows; what each window leaves in the buffers later
windows read; and the whole run, ending with each result buffer at its array over the arguments.
-/

set_option Elab.async false

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- The joining of the two halves of an encoded box, by name. -/
def joinHalves : (⟨S65536x2, .f32⟩ : BufTy).Contents (Elt F) → (⟨S65536x2, .f32⟩ : BufTy).Contents (Elt F) → (⟨S65536x4, .f32⟩ : BufTy).Contents (Elt F) :=
  (fun a b => concatenate S65536x4 1 [⟨S65536x2, a⟩, ⟨S65536x2, b⟩] concatenates_S65536x2_S65536x2_S65536x4_d1)

/-- Window 1 of the operations. -/
abbrev ops1 : List (HloOp τ sig (Elt F)) :=
  [ unary main_arg3 main_v0 ((extractStridedSlice S256x1 ![0, 2] · slices_S256x4_S256x1_0_2) : (⟨S256x4, .f32⟩ : BufTy).Contents (Elt F) → (⟨S256x1, .f32⟩ : BufTy).Contents (Elt F)),
    reshape main_v0 main_v1 (rfl : (.f32 : EltTy) = .f32) shapeCasts_S256x1_S256,
    unary main_arg3 main_v2 ((extractStridedSlice S256x1 ![0, 0] · slices_S256x4_S256x1_0_0) : (⟨S256x4, .f32⟩ : BufTy).Contents (Elt F) → (⟨S256x1, .f32⟩ : BufTy).Contents (Elt F)),
    reshape main_v2 main_v3 (rfl : (.f32 : EltTy) = .f32) shapeCasts_S256x1_S256,
    binary main_v1 main_v3 main_v4 (subf : (⟨S256, .f32⟩ : BufTy).Contents (Elt F) → (⟨S256, .f32⟩ : BufTy).Contents (Elt F) → (⟨S256, .f32⟩ : BufTy).Contents (Elt F)),
    unary main_arg3 main_v5 ((extractStridedSlice S256x1 ![0, 3] · slices_S256x4_S256x1_0_3) : (⟨S256x4, .f32⟩ : BufTy).Contents (Elt F) → (⟨S256x1, .f32⟩ : BufTy).Contents (Elt F)),
    reshape main_v5 main_v6 (rfl : (.f32 : EltTy) = .f32) shapeCasts_S256x1_S256,
    unary main_arg3 main_v7 ((extractStridedSlice S256x1 ![0, 1] · slices_S256x4_S256x1_0_1) : (⟨S256x4, .f32⟩ : BufTy).Contents (Elt F) → (⟨S256x1, .f32⟩ : BufTy).Contents (Elt F)),
    reshape main_v7 main_v8 (rfl : (.f32 : EltTy) = .f32) shapeCasts_S256x1_S256,
    binary main_v6 main_v8 main_v9 (subf : (⟨S256, .f32⟩ : BufTy).Contents (Elt F) → (⟨S256, .f32⟩ : BufTy).Contents (Elt F) → (⟨S256, .f32⟩ : BufTy).Contents (Elt F)),
    binary main_v4 main_v9 main_v10 (mulf : (⟨S256, .f32⟩ : BufTy).Contents (Elt F) → (⟨S256, .f32⟩ : BufTy).Contents (Elt F) → (⟨S256, .f32⟩ : BufTy).Contents (Elt F)) ]

/-- Window 2 of the operations. -/
abbrev ops2 : List (HloOp τ sig (Elt F)) :=
  [ unary main_arg2 main_v11 ((extractStridedSlice S65536x1 ![0, 2] · slices_S65536x4_S65536x1_0_2) : (⟨S65536x4, .f32⟩ : BufTy).Contents (Elt F) → (⟨S65536x1, .f32⟩ : BufTy).Contents (Elt F)),
    reshape main_v11 main_v12 (rfl : (.f32 : EltTy) = .f32) shapeCasts_S65536x1_S65536,
    unary main_arg2 main_v13 ((extractStridedSlice S65536x1 ![0, 0] · slices_S65536x4_S65536x1_0_0) : (⟨S65536x4, .f32⟩ : BufTy).Contents (Elt F) → (⟨S65536x1, .f32⟩ : BufTy).Contents (Elt F)),
    reshape main_v13 main_v14 (rfl : (.f32 : EltTy) = .f32) shapeCasts_S65536x1_S65536,
    binary main_v12 main_v14 main_v15 (subf : (⟨S65536, .f32⟩ : BufTy).Contents (Elt F) → (⟨S65536, .f32⟩ : BufTy).Contents (Elt F) → (⟨S65536, .f32⟩ : BufTy).Contents (Elt F)),
    unary main_arg2 main_v16 ((extractStridedSlice S65536x1 ![0, 3] · slices_S65536x4_S65536x1_0_3) : (⟨S65536x4, .f32⟩ : BufTy).Contents (Elt F) → (⟨S65536x1, .f32⟩ : BufTy).Contents (Elt F)),
    reshape main_v16 main_v17 (rfl : (.f32 : EltTy) = .f32) shapeCasts_S65536x1_S65536,
    unary main_arg2 main_v18 ((extractStridedSlice S65536x1 ![0, 1] · slices_S65536x4_S65536x1_0_1) : (⟨S65536x4, .f32⟩ : BufTy).Contents (Elt F) → (⟨S65536x1, .f32⟩ : BufTy).Contents (Elt F)),
    reshape main_v18 main_v19 (rfl : (.f32 : EltTy) = .f32) shapeCasts_S65536x1_S65536,
    binary main_v17 main_v19 main_v20 (subf : (⟨S65536, .f32⟩ : BufTy).Contents (Elt F) → (⟨S65536, .f32⟩ : BufTy).Contents (Elt F) → (⟨S65536, .f32⟩ : BufTy).Contents (Elt F)),
    binary main_v15 main_v20 main_v21 (mulf : (⟨S65536, .f32⟩ : BufTy).Contents (Elt F) → (⟨S65536, .f32⟩ : BufTy).Contents (Elt F) → (⟨S65536, .f32⟩ : BufTy).Contents (Elt F)) ]

/-- Window 3 of the operations. -/
abbrev ops3 : List (HloOp τ sig (Elt F)) :=
  [ unary main_arg3 main_v22 ((extractStridedSlice S256x2 ![0, 0] · slices_S256x4_S256x2_0_0) : (⟨S256x4, .f32⟩ : BufTy).Contents (Elt F) → (⟨S256x2, .f32⟩ : BufTy).Contents (Elt F)),
    unary main_v22 main_v23 (broadcastInDim S256x1x2 ![0, 2] bcast_S256x2_S256x1x2_0_2 : (⟨S256x2, .f32⟩ : BufTy).Contents (Elt F) → (⟨S256x1x2, .f32⟩ : BufTy).Contents (Elt F)),
    unary main_arg2 main_v24 ((extractStridedSlice S65536x2 ![0, 0] · slices_S65536x4_S65536x2_0_0) : (⟨S65536x4, .f32⟩ : BufTy).Contents (Elt F) → (⟨S65536x2, .f32⟩ : BufTy).Contents (Elt F)),
    unary main_v24 main_v25 (broadcastInDim S1x65536x2 ![1, 2] bcast_S65536x2_S1x65536x2_1_2 : (⟨S65536x2, .f32⟩ : BufTy).Contents (Elt F) → (⟨S1x65536x2, .f32⟩ : BufTy).Contents (Elt F)),
    unary main_v23 main_v26 (broadcastInDim S256x65536x2 ![0, 1, 2] bcast_S256x1x2_S256x65536x2_0_1_2 : (⟨S256x1x2, .f32⟩ : BufTy).Contents (Elt F) → (⟨S256x65536x2, .f32⟩ : BufTy).Contents (Elt F)),
    unary main_v25 main_v27 (broadcastInDim S256x65536x2 ![0, 1, 2] bcast_S1x65536x2_S256x65536x2_0_1_2 : (⟨S1x65536x2, .f32⟩ : BufTy).Contents (Elt F) → (⟨S256x65536x2, .f32⟩ : BufTy).Contents (Elt F)),
    binary main_v26 main_v27 main_v28 (maximumf : (⟨S256x65536x2, .f32⟩ : BufTy).Contents (Elt F) → (⟨S256x65536x2, .f32⟩ : BufTy).Contents (Elt F) → (⟨S256x65536x2, .f32⟩ : BufTy).Contents (Elt F)),
    unary main_arg3 main_v29 ((extractStridedSlice S256x2 ![0, 2] · slices_S256x4_S256x2_0_2) : (⟨S256x4, .f32⟩ : BufTy).Contents (Elt F) → (⟨S256x2, .f32⟩ : BufTy).Contents (Elt F)),
    unary main_v29 main_v30 (broadcastInDim S256x1x2 ![0, 2] bcast_S256x2_S256x1x2_0_2 : (⟨S256x2, .f32⟩ : BufTy).Contents (Elt F) → (⟨S256x1x2, .f32⟩ : BufTy).Contents (Elt F)),
    unary main_arg2 main_v31 ((extractStridedSlice S65536x2 ![0, 2] · slices_S65536x4_S65536x2_0_2) : (⟨S65536x4, .f32⟩ : BufTy).Contents (Elt F) → (⟨S65536x2, .f32⟩ : BufTy).Contents (Elt F)),
    unary main_v31 main_v32 (broadcastInDim S1x65536x2 ![1, 2] bcast_S65536x2_S1x65536x2_1_2 : (⟨S65536x2, .f32⟩ : BufTy).Contents (Elt F) → (⟨S1x65536x2, .f32⟩ : BufTy).Contents (Elt F)),
    unary main_v30 main_v33 (broadcastInDim S256x65536x2 ![0, 1, 2] bcast_S256x1x2_S256x65536x2_0_1_2 : (⟨S256x1x2, .f32⟩ : BufTy).Contents (Elt F) → (⟨S256x65536x2, .f32⟩ : BufTy).Contents (Elt F)),
    unary main_v32 main_v34 (broadcastInDim S256x65536x2 ![0, 1, 2] bcast_S1x65536x2_S256x65536x2_0_1_2 : (⟨S1x65536x2, .f32⟩ : BufTy).Contents (Elt F) → (⟨S256x65536x2, .f32⟩ : BufTy).Contents (Elt F)),
    binary main_v33 main_v34 main_v35 (minimumf : (⟨S256x65536x2, .f32⟩ : BufTy).Contents (Elt F) → (⟨S256x65536x2, .f32⟩ : BufTy).Contents (Elt F) → (⟨S256x65536x2, .f32⟩ : BufTy).Contents (Elt F)),
    binary main_v35 main_v28 main_v36 (subf : (⟨S256x65536x2, .f32⟩ : BufTy).Contents (Elt F) → (⟨S256x65536x2, .f32⟩ : BufTy).Contents (Elt F) → (⟨S256x65536x2, .f32⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S256x65536x2, .f32⟩) main_call0_v1) (broadcastInDim S256x65536x2 ![] bcast_S_S256x65536x2),
    TRef.binary (TRef.of (T := ⟨S256x65536x2, .f32⟩) main_call0_v1) (TRef.of (T := ⟨S256x65536x2, .f32⟩) main_v36) (TRef.of (T := ⟨S256x65536x2, .f32⟩) main_v37) maximumf ]

/-- Window 4 of the operations. -/
abbrev ops4 : List (HloOp τ sig (Elt F)) :=
  [ unary main_v37 main_v38 ((extractStridedSlice S256x65536x1 ![0, 0, 0] · slices_S256x65536x2_S256x65536x1_0_0_0) : (⟨S256x65536x2, .f32⟩ : BufTy).Contents (Elt F) → (⟨S256x65536x1, .f32⟩ : BufTy).Contents (Elt F)),
    reshape main_v38 main_v39 (rfl : (.f32 : EltTy) = .f32) shapeCasts_S256x65536x1_S256x65536,
    unary main_v37 main_v40 ((extractStridedSlice S256x65536x1 ![0, 0, 1] · slices_S256x65536x2_S256x65536x1_0_0_1) : (⟨S256x65536x2, .f32⟩ : BufTy).Contents (Elt F) → (⟨S256x65536x1, .f32⟩ : BufTy).Contents (Elt F)),
    reshape main_v40 main_v41 (rfl : (.f32 : EltTy) = .f32) shapeCasts_S256x65536x1_S256x65536,
    binary main_v39 main_v41 main_v42 (mulf : (⟨S256x65536, .f32⟩ : BufTy).Contents (Elt F) → (⟨S256x65536, .f32⟩ : BufTy).Contents (Elt F) → (⟨S256x65536, .f32⟩ : BufTy).Contents (Elt F)),
    unary main_v10 main_v43 (broadcastInDim S256x1 ![0] bcast_S256_S256x1_0 : (⟨S256, .f32⟩ : BufTy).Contents (Elt F) → (⟨S256x1, .f32⟩ : BufTy).Contents (Elt F)),
    unary main_v21 main_v44 (broadcastInDim S1x65536 ![1] bcast_S65536_S1x65536_1 : (⟨S65536, .f32⟩ : BufTy).Contents (Elt F) → (⟨S1x65536, .f32⟩ : BufTy).Contents (Elt F)),
    unary main_v43 main_v45 (broadcastInDim S256x65536 ![0, 1] bcast_S256x1_S256x65536_0_1 : (⟨S256x1, .f32⟩ : BufTy).Contents (Elt F) → (⟨S256x65536, .f32⟩ : BufTy).Contents (Elt F)),
    unary main_v44 main_v46 (broadcastInDim S256x65536 ![0, 1] bcast_S1x65536_S256x65536_0_1 : (⟨S1x65536, .f32⟩ : BufTy).Contents (Elt F) → (⟨S256x65536, .f32⟩ : BufTy).Contents (Elt F)),
    binary main_v45 main_v46 main_v47 (addf : (⟨S256x65536, .f32⟩ : BufTy).Contents (Elt F) → (⟨S256x65536, .f32⟩ : BufTy).Contents (Elt F) → (⟨S256x65536, .f32⟩ : BufTy).Contents (Elt F)),
    binary main_v47 main_v42 main_v48 (subf : (⟨S256x65536, .f32⟩ : BufTy).Contents (Elt F) → (⟨S256x65536, .f32⟩ : BufTy).Contents (Elt F) → (⟨S256x65536, .f32⟩ : BufTy).Contents (Elt F)),
    nullary main_cst_0 (constant S_ .f32 0x322BCC77#32),
    unary main_cst_0 main_v49 (broadcastInDim S256x65536 ![] bcast_S_S256x65536 : (⟨S_, .f32⟩ : BufTy).Contents (Elt F) → (⟨S256x65536, .f32⟩ : BufTy).Contents (Elt F)),
    binary main_v48 main_v49 main_v50 (addf : (⟨S256x65536, .f32⟩ : BufTy).Contents (Elt F) → (⟨S256x65536, .f32⟩ : BufTy).Contents (Elt F) → (⟨S256x65536, .f32⟩ : BufTy).Contents (Elt F)),
    binary main_v42 main_v50 main_v51 (Host.divf : (⟨S256x65536, .f32⟩ : BufTy).Contents (Elt F) → (⟨S256x65536, .f32⟩ : BufTy).Contents (Elt F) → (⟨S256x65536, .f32⟩ : BufTy).Contents (Elt F)) ]

/-- Window 5 of the operations. -/
abbrev ops5 : List (HloOp τ sig (Elt F)) :=
  [ nullary main_cst_1 (constant S_ .f32 0xFF800000#32),
    binary main_v51 main_cst_1 main_v52 ((fun x v => Host.reduce FloatOps.maximumf x v reducesTo_S256x65536_S65536_d0 h_S_) : (⟨S256x65536, .f32⟩ : BufTy).Contents (Elt F) → (⟨S_, .f32⟩ : BufTy).Contents (Elt F) → (⟨S65536, .f32⟩ : BufTy).Contents (Elt F)),
    TRef.nullary (TRef.of (T := ⟨S256x65536, .i32⟩) main_call1_v0) (iotaInDim S256x65536 32 0),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S256x65536, .f32⟩) main_v51) (TRef.of (T := ⟨S256x65536, .i32⟩) main_call1_v0) (TRef.of (T := ⟨S_, .f32⟩) main_call1_cst) (TRef.of (T := ⟨S_, .i32⟩) main_call1_c) (TRef.of (T := ⟨S65536, .f32⟩) main_call1_v1_0) (fun x y u v j => (Host.argReduce reducer_argmax_f32_i32 x y u v reducesTo_S256x65536_S65536_d0 h_S_ j).1),
    TRef.quaternary (TRef.of (T := ⟨S256x65536, .f32⟩) main_v51) (TRef.of (T := ⟨S256x65536, .i32⟩) main_call1_v0) (TRef.of (T := ⟨S_, .f32⟩) main_call1_cst) (TRef.of (T := ⟨S_, .i32⟩) main_call1_c) (TRef.of (T := ⟨S65536, .i32⟩) main_v53) (fun x y u v j => (Host.argReduce reducer_argmax_f32_i32 x y u v reducesTo_S256x65536_S65536_d0 h_S_ j).2),
    nullary main_cst_2 (constant S_ .f32 0x3F000000#32),
    unary main_cst_2 main_v54 (broadcastInDim S65536 ![] bcast_S_S65536 : (⟨S_, .f32⟩ : BufTy).Contents (Elt F) → (⟨S65536, .f32⟩ : BufTy).Contents (Elt F)),
    binary main_v52 main_v54 main_v55 (cmpf .oge : (⟨S65536, .f32⟩ : BufTy).Contents (Elt F) → (⟨S65536, .f32⟩ : BufTy).Contents (Elt F) → (⟨S65536, .i1⟩ : BufTy).Contents (Elt F)) ]

/-- Window 6 of the operations. -/
abbrev ops6 : List (HloOp τ sig (Elt F)) :=
  [ unary main_v55 main_v56 (uitofp .f32 : (⟨S65536, .i1⟩ : BufTy).Contents (Elt F) → (⟨S65536, .f32⟩ : BufTy).Contents (Elt F)),
    nullary main_cst_3 (constant S_ .f32 0x00000000#32),
    binary main_v56 main_cst_3 main_v57 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)) ]

/-- Window 7 of the operations. -/
abbrev ops7 : List (HloOp τ sig (Elt F)) :=
  [ nullary main_c (constantI S_ 32 0#32),
    unary main_c main_v58 (broadcastInDim S65536 ![] bcast_S_S65536 : (⟨S_, .i32⟩ : BufTy).Contents (Elt F) → (⟨S65536, .i32⟩ : BufTy).Contents (Elt F)),
    binary main_v53 main_v58 main_v59 (cmpi .slt : (⟨S65536, .i32⟩ : BufTy).Contents (Elt F) → (⟨S65536, .i32⟩ : BufTy).Contents (Elt F) → (⟨S65536, .i1⟩ : BufTy).Contents (Elt F)),
    nullary main_c_4 (constantI S_ 32 256#32),
    unary main_c_4 main_v60 (broadcastInDim S65536 ![] bcast_S_S65536 : (⟨S_, .i32⟩ : BufTy).Contents (Elt F) → (⟨S65536, .i32⟩ : BufTy).Contents (Elt F)),
    binary main_v53 main_v60 main_v61 (addi : (⟨S65536, .i32⟩ : BufTy).Contents (Elt F) → (⟨S65536, .i32⟩ : BufTy).Contents (Elt F) → (⟨S65536, .i32⟩ : BufTy).Contents (Elt F)),
    ternary main_v59 main_v61 main_v53 main_v62 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v62 main_v63 (broadcastInDim S65536x1 ![0] bcast_S65536_S65536x1_0 : (⟨S65536, .i32⟩ : BufTy).Contents (Elt F) → (⟨S65536x1, .i32⟩ : BufTy).Contents (Elt F)),
    binary main_arg4 main_v63 main_v64 ((fun x i => Host.gather gather_S256_S65536x1_S65536_n_0_n_n_0_1_1 x i) : (⟨S256, .i32⟩ : BufTy).Contents (Elt F) → (⟨S65536x1, .i32⟩ : BufTy).Contents (Elt F) → (⟨S65536, .i32⟩ : BufTy).Contents (Elt F)),
    TRef.unary (TRef.of (T := ⟨S65536, .i32⟩) main_v64) (TRef.of (T := ⟨S65536x1, .i32⟩) main_call2_v0) (broadcastInDim S65536x1 ![0] bcast_S65536_S65536x1_0),
    TRef.nullary (TRef.of (T := ⟨S1x21, .i32⟩) main_call2_v1) (iotaInDim S1x21 32 1),
    TRef.unary (TRef.of (T := ⟨S65536x1, .i32⟩) main_call2_v0) (TRef.of (T := ⟨S65536x21, .i32⟩) main_call2_v2) (broadcastInDim S65536x21 ![0, 1] bcast_S65536x1_S65536x21_0_1),
    TRef.unary (TRef.of (T := ⟨S1x21, .i32⟩) main_call2_v1) (TRef.of (T := ⟨S65536x21, .i32⟩) main_call2_v3) (broadcastInDim S65536x21 ![0, 1] bcast_S1x21_S65536x21_0_1),
    TRef.binary (TRef.of (T := ⟨S65536x21, .i32⟩) main_call2_v2) (TRef.of (T := ⟨S65536x21, .i32⟩) main_call2_v3) (TRef.of (T := ⟨S65536x21, .i1⟩) main_call2_v4) (cmpi .eq),
    TRef.unary (TRef.of (T := ⟨S65536x21, .i1⟩) main_call2_v4) (TRef.of (T := ⟨S65536x21, .f32⟩) main_v65) (uitofp .f32) ]

/-- Window 8 of the operations. -/
abbrev ops8 : List (HloOp τ sig (Elt F)) :=
  [ unary main_v55 main_v66 (broadcastInDim S65536x1 ![0] bcast_S65536_S65536x1_0 : (⟨S65536, .i1⟩ : BufTy).Contents (Elt F) → (⟨S65536x1, .i1⟩ : BufTy).Contents (Elt F)),
    nullary main_cst_5 (constant S_ .f32 0x00000000#32),
    TRef.unary (TRef.of (T := ⟨S_, .f32⟩) main_cst_5) (TRef.of (T := ⟨S_, .f32⟩) main_call3_v0) id,
    TRef.unary (TRef.of (T := ⟨S65536x1, .i1⟩) main_v66) (TRef.of (T := ⟨S65536x21, .i1⟩) main_call3_v1) (broadcastInDim S65536x21 ![0, 1] bcast_S65536x1_S65536x21_0_1),
    TRef.unary (TRef.of (T := ⟨S_, .f32⟩) main_call3_v0) (TRef.of (T := ⟨S65536x21, .f32⟩) main_call3_v2) (broadcastInDim S65536x21 ![] bcast_S_S65536x21),
    TRef.ternary (TRef.of (T := ⟨S65536x21, .i1⟩) main_call3_v1) (TRef.of (T := ⟨S65536x21, .f32⟩) main_v65) (TRef.of (T := ⟨S65536x21, .f32⟩) main_call3_v2) (TRef.of (T := ⟨S65536x21, .f32⟩) main_v67) select ]

/-- Window 9 of the operations. -/
abbrev ops9 : List (HloOp τ sig (Elt F)) :=
  [ nullary main_cst_6 (constant S_ .f32 0x00000000#32),
    unary main_cst_6 main_v68 (broadcastInDim S65536x21 ![] bcast_S_S65536x21 : (⟨S_, .f32⟩ : BufTy).Contents (Elt F) → (⟨S65536x21, .f32⟩ : BufTy).Contents (Elt F)),
    binary main_arg0 main_v68 main_v69 (maximumf : (⟨S65536x21, .f32⟩ : BufTy).Contents (Elt F) → (⟨S65536x21, .f32⟩ : BufTy).Contents (Elt F) → (⟨S65536x21, .f32⟩ : BufTy).Contents (Elt F)),
    binary main_arg0 main_v67 main_v70 (mulf : (⟨S65536x21, .f32⟩ : BufTy).Contents (Elt F) → (⟨S65536x21, .f32⟩ : BufTy).Contents (Elt F) → (⟨S65536x21, .f32⟩ : BufTy).Contents (Elt F)),
    binary main_v69 main_v70 main_v71 (subf : (⟨S65536x21, .f32⟩ : BufTy).Contents (Elt F) → (⟨S65536x21, .f32⟩ : BufTy).Contents (Elt F) → (⟨S65536x21, .f32⟩ : BufTy).Contents (Elt F)),
    unary main_arg0 main_v72 (Host.absf : (⟨S65536x21, .f32⟩ : BufTy).Contents (Elt F) → (⟨S65536x21, .f32⟩ : BufTy).Contents (Elt F)),
    unary main_v72 main_v73 (Host.negf : (⟨S65536x21, .f32⟩ : BufTy).Contents (Elt F) → (⟨S65536x21, .f32⟩ : BufTy).Contents (Elt F)),
    unary main_v73 main_v74 (Host.exp : (⟨S65536x21, .f32⟩ : BufTy).Contents (Elt F) → (⟨S65536x21, .f32⟩ : BufTy).Contents (Elt F)),
    unary main_v74 main_v75 (Host.log1p : (⟨S65536x21, .f32⟩ : BufTy).Contents (Elt F) → (⟨S65536x21, .f32⟩ : BufTy).Contents (Elt F)),
    binary main_v71 main_v75 main_v76 (addf : (⟨S65536x21, .f32⟩ : BufTy).Contents (Elt F) → (⟨S65536x21, .f32⟩ : BufTy).Contents (Elt F) → (⟨S65536x21, .f32⟩ : BufTy).Contents (Elt F)) ]

/-- Window 10 of the operations. -/
abbrev ops10 : List (HloOp τ sig (Elt F)) :=
  [ unary main_arg0 main_v77 (Host.negf : (⟨S65536x21, .f32⟩ : BufTy).Contents (Elt F) → (⟨S65536x21, .f32⟩ : BufTy).Contents (Elt F)),
    unary main_v77 main_v78 (Host.exp : (⟨S65536x21, .f32⟩ : BufTy).Contents (Elt F) → (⟨S65536x21, .f32⟩ : BufTy).Contents (Elt F)),
    nullary main_cst_7 (constant S_ .f32 0x3F800000#32),
    unary main_cst_7 main_v79 (broadcastInDim S65536x21 ![] bcast_S_S65536x21 : (⟨S_, .f32⟩ : BufTy).Contents (Elt F) → (⟨S65536x21, .f32⟩ : BufTy).Contents (Elt F)),
    binary main_v79 main_v78 main_v80 (addf : (⟨S65536x21, .f32⟩ : BufTy).Contents (Elt F) → (⟨S65536x21, .f32⟩ : BufTy).Contents (Elt F) → (⟨S65536x21, .f32⟩ : BufTy).Contents (Elt F)),
    nullary main_cst_8 (constant S_ .f32 0x3F800000#32),
    unary main_cst_8 main_v81 (broadcastInDim S65536x21 ![] bcast_S_S65536x21 : (⟨S_, .f32⟩ : BufTy).Contents (Elt F) → (⟨S65536x21, .f32⟩ : BufTy).Contents (Elt F)),
    binary main_v81 main_v80 main_v82 (Host.divf : (⟨S65536x21, .f32⟩ : BufTy).Contents (Elt F) → (⟨S65536x21, .f32⟩ : BufTy).Contents (Elt F) → (⟨S65536x21, .f32⟩ : BufTy).Contents (Elt F)) ]

/-- Window 11 of the operations. -/
abbrev ops11 : List (HloOp τ sig (Elt F)) :=
  [ binary main_v82 main_v67 main_v83 (mulf : (⟨S65536x21, .f32⟩ : BufTy).Contents (Elt F) → (⟨S65536x21, .f32⟩ : BufTy).Contents (Elt F) → (⟨S65536x21, .f32⟩ : BufTy).Contents (Elt F)),
    nullary main_cst_9 (constant S_ .f32 0x3F800000#32),
    unary main_cst_9 main_v84 (broadcastInDim S65536x21 ![] bcast_S_S65536x21 : (⟨S_, .f32⟩ : BufTy).Contents (Elt F) → (⟨S65536x21, .f32⟩ : BufTy).Contents (Elt F)),
    binary main_v84 main_v82 main_v85 (subf : (⟨S65536x21, .f32⟩ : BufTy).Contents (Elt F) → (⟨S65536x21, .f32⟩ : BufTy).Contents (Elt F) → (⟨S65536x21, .f32⟩ : BufTy).Contents (Elt F)),
    nullary main_cst_10 (constant S_ .f32 0x3F800000#32),
    unary main_cst_10 main_v86 (broadcastInDim S65536x21 ![] bcast_S_S65536x21 : (⟨S_, .f32⟩ : BufTy).Contents (Elt F) → (⟨S65536x21, .f32⟩ : BufTy).Contents (Elt F)),
    binary main_v86 main_v67 main_v87 (subf : (⟨S65536x21, .f32⟩ : BufTy).Contents (Elt F) → (⟨S65536x21, .f32⟩ : BufTy).Contents (Elt F) → (⟨S65536x21, .f32⟩ : BufTy).Contents (Elt F)),
    binary main_v85 main_v87 main_v88 (mulf : (⟨S65536x21, .f32⟩ : BufTy).Contents (Elt F) → (⟨S65536x21, .f32⟩ : BufTy).Contents (Elt F) → (⟨S65536x21, .f32⟩ : BufTy).Contents (Elt F)),
    binary main_v83 main_v88 main_v89 (addf : (⟨S65536x21, .f32⟩ : BufTy).Contents (Elt F) → (⟨S65536x21, .f32⟩ : BufTy).Contents (Elt F) → (⟨S65536x21, .f32⟩ : BufTy).Contents (Elt F)) ]

/-- Window 12 of the operations. -/
abbrev ops12 : List (HloOp τ sig (Elt F)) :=
  [ nullary main_cst_11 (constant S_ .f32 0x3E800000#32),
    unary main_cst_11 main_v90 (broadcastInDim S65536x21 ![] bcast_S_S65536x21 : (⟨S_, .f32⟩ : BufTy).Contents (Elt F) → (⟨S65536x21, .f32⟩ : BufTy).Contents (Elt F)),
    binary main_v90 main_v67 main_v91 (mulf : (⟨S65536x21, .f32⟩ : BufTy).Contents (Elt F) → (⟨S65536x21, .f32⟩ : BufTy).Contents (Elt F) → (⟨S65536x21, .f32⟩ : BufTy).Contents (Elt F)),
    nullary main_cst_12 (constant S_ .f32 0x3F800000#32),
    unary main_cst_12 main_v92 (broadcastInDim S65536x21 ![] bcast_S_S65536x21 : (⟨S_, .f32⟩ : BufTy).Contents (Elt F) → (⟨S65536x21, .f32⟩ : BufTy).Contents (Elt F)),
    binary main_v92 main_v67 main_v93 (subf : (⟨S65536x21, .f32⟩ : BufTy).Contents (Elt F) → (⟨S65536x21, .f32⟩ : BufTy).Contents (Elt F) → (⟨S65536x21, .f32⟩ : BufTy).Contents (Elt F)),
    nullary main_cst_13 (constant S_ .f32 0x3F400000#32),
    unary main_cst_13 main_v94 (broadcastInDim S65536x21 ![] bcast_S_S65536x21 : (⟨S_, .f32⟩ : BufTy).Contents (Elt F) → (⟨S65536x21, .f32⟩ : BufTy).Contents (Elt F)),
    binary main_v94 main_v93 main_v95 (mulf : (⟨S65536x21, .f32⟩ : BufTy).Contents (Elt F) → (⟨S65536x21, .f32⟩ : BufTy).Contents (Elt F) → (⟨S65536x21, .f32⟩ : BufTy).Contents (Elt F)),
    binary main_v91 main_v95 main_v96 (addf : (⟨S65536x21, .f32⟩ : BufTy).Contents (Elt F) → (⟨S65536x21, .f32⟩ : BufTy).Contents (Elt F) → (⟨S65536x21, .f32⟩ : BufTy).Contents (Elt F)) ]

/-- Window 13 of the operations. -/
abbrev ops13 : List (HloOp τ sig (Elt F)) :=
  [ nullary main_cst_14 (constant S_ .f32 0x3F800000#32),
    unary main_cst_14 main_v97 (broadcastInDim S65536x21 ![] bcast_S_S65536x21 : (⟨S_, .f32⟩ : BufTy).Contents (Elt F) → (⟨S65536x21, .f32⟩ : BufTy).Contents (Elt F)),
    binary main_v97 main_v89 main_v98 (subf : (⟨S65536x21, .f32⟩ : BufTy).Contents (Elt F) → (⟨S65536x21, .f32⟩ : BufTy).Contents (Elt F) → (⟨S65536x21, .f32⟩ : BufTy).Contents (Elt F)),
    nullary main_cst_15 (constant S_ .f32 0x40000000#32),
    unary main_cst_15 main_v99 (broadcastInDim S65536x21 ![] bcast_S_S65536x21 : (⟨S_, .f32⟩ : BufTy).Contents (Elt F) → (⟨S65536x21, .f32⟩ : BufTy).Contents (Elt F)),
    binary main_v98 main_v99 main_v100 (Host.powf : (⟨S65536x21, .f32⟩ : BufTy).Contents (Elt F) → (⟨S65536x21, .f32⟩ : BufTy).Contents (Elt F) → (⟨S65536x21, .f32⟩ : BufTy).Contents (Elt F)),
    binary main_v96 main_v100 main_v101 (mulf : (⟨S65536x21, .f32⟩ : BufTy).Contents (Elt F) → (⟨S65536x21, .f32⟩ : BufTy).Contents (Elt F) → (⟨S65536x21, .f32⟩ : BufTy).Contents (Elt F)) ]

/-- Window 14 of the operations. -/
abbrev ops14 : List (HloOp τ sig (Elt F)) :=
  [ binary main_v101 main_v76 main_v102 (mulf : (⟨S65536x21, .f32⟩ : BufTy).Contents (Elt F) → (⟨S65536x21, .f32⟩ : BufTy).Contents (Elt F) → (⟨S65536x21, .f32⟩ : BufTy).Contents (Elt F)),
    nullary main_cst_16 (constant S_ .f32 0x00000000#32),
    binary main_v102 main_cst_16 main_v103 ((fun x v => Host.reduceAdd x v reducesTo_S65536x21_S_d0_1 h_S_) : (⟨S65536x21, .f32⟩ : BufTy).Contents (Elt F) → (⟨S_, .f32⟩ : BufTy).Contents (Elt F) → (⟨S_, .f32⟩ : BufTy).Contents (Elt F)),
    binary main_v103 main_v57 main_v104 (Host.divf : (⟨S_, .f32⟩ : BufTy).Contents (Elt F) → (⟨S_, .f32⟩ : BufTy).Contents (Elt F) → (⟨S_, .f32⟩ : BufTy).Contents (Elt F)) ]

/-- Window 15 of the operations. -/
abbrev ops15 : List (HloOp τ sig (Elt F)) :=
  [ nullary main_c_17 (constantI S_ 32 0#32),
    unary main_c_17 main_v105 (broadcastInDim S65536 ![] bcast_S_S65536 : (⟨S_, .i32⟩ : BufTy).Contents (Elt F) → (⟨S65536, .i32⟩ : BufTy).Contents (Elt F)),
    binary main_v53 main_v105 main_v106 (cmpi .slt : (⟨S65536, .i32⟩ : BufTy).Contents (Elt F) → (⟨S65536, .i32⟩ : BufTy).Contents (Elt F) → (⟨S65536, .i1⟩ : BufTy).Contents (Elt F)),
    nullary main_c_18 (constantI S_ 32 256#32),
    unary main_c_18 main_v107 (broadcastInDim S65536 ![] bcast_S_S65536 : (⟨S_, .i32⟩ : BufTy).Contents (Elt F) → (⟨S65536, .i32⟩ : BufTy).Contents (Elt F)),
    binary main_v53 main_v107 main_v108 (addi : (⟨S65536, .i32⟩ : BufTy).Contents (Elt F) → (⟨S65536, .i32⟩ : BufTy).Contents (Elt F) → (⟨S65536, .i32⟩ : BufTy).Contents (Elt F)),
    ternary main_v106 main_v108 main_v53 main_v109 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v109 main_v110 (broadcastInDim S65536x1 ![0] bcast_S65536_S65536x1_0 : (⟨S65536, .i32⟩ : BufTy).Contents (Elt F) → (⟨S65536x1, .i32⟩ : BufTy).Contents (Elt F)),
    binary main_arg3 main_v110 main_v111 ((fun x i => Host.gather gather_S256x4_S65536x1_S65536x4_1_0_n_n_0_1_14 x i) : (⟨S256x4, .f32⟩ : BufTy).Contents (Elt F) → (⟨S65536x1, .i32⟩ : BufTy).Contents (Elt F) → (⟨S65536x4, .f32⟩ : BufTy).Contents (Elt F)) ]

/-- Window 16 of the operations. -/
abbrev ops16 : List (HloOp τ sig (Elt F)) :=
  [ unary main_v111 main_v112 ((extractStridedSlice S65536x2 ![0, 0] · slices_S65536x4_S65536x2_0_0) : (⟨S65536x4, .f32⟩ : BufTy).Contents (Elt F) → (⟨S65536x2, .f32⟩ : BufTy).Contents (Elt F)),
    unary main_v111 main_v113 ((extractStridedSlice S65536x2 ![0, 2] · slices_S65536x4_S65536x2_0_2) : (⟨S65536x4, .f32⟩ : BufTy).Contents (Elt F) → (⟨S65536x2, .f32⟩ : BufTy).Contents (Elt F)),
    binary main_v112 main_v113 main_v114 (addf : (⟨S65536x2, .f32⟩ : BufTy).Contents (Elt F) → (⟨S65536x2, .f32⟩ : BufTy).Contents (Elt F) → (⟨S65536x2, .f32⟩ : BufTy).Contents (Elt F)),
    nullary main_cst_19 (constant S_ .f32 0x3F000000#32),
    unary main_cst_19 main_v115 (broadcastInDim S65536x2 ![] bcast_S_S65536x2 : (⟨S_, .f32⟩ : BufTy).Contents (Elt F) → (⟨S65536x2, .f32⟩ : BufTy).Contents (Elt F)),
    binary main_v114 main_v115 main_v116 (mulf : (⟨S65536x2, .f32⟩ : BufTy).Contents (Elt F) → (⟨S65536x2, .f32⟩ : BufTy).Contents (Elt F) → (⟨S65536x2, .f32⟩ : BufTy).Contents (Elt F)),
    unary main_v111 main_v117 ((extractStridedSlice S65536x2 ![0, 2] · slices_S65536x4_S65536x2_0_2) : (⟨S65536x4, .f32⟩ : BufTy).Contents (Elt F) → (⟨S65536x2, .f32⟩ : BufTy).Contents (Elt F)),
    unary main_v111 main_v118 ((extractStridedSlice S65536x2 ![0, 0] · slices_S65536x4_S65536x2_0_0) : (⟨S65536x4, .f32⟩ : BufTy).Contents (Elt F) → (⟨S65536x2, .f32⟩ : BufTy).Contents (Elt F)),
    binary main_v117 main_v118 main_v119 (subf : (⟨S65536x2, .f32⟩ : BufTy).Contents (Elt F) → (⟨S65536x2, .f32⟩ : BufTy).Contents (Elt F) → (⟨S65536x2, .f32⟩ : BufTy).Contents (Elt F)),
    unary main_arg2 main_v120 ((extractStridedSlice S65536x2 ![0, 0] · slices_S65536x4_S65536x2_0_0) : (⟨S65536x4, .f32⟩ : BufTy).Contents (Elt F) → (⟨S65536x2, .f32⟩ : BufTy).Contents (Elt F)),
    unary main_arg2 main_v121 ((extractStridedSlice S65536x2 ![0, 2] · slices_S65536x4_S65536x2_0_2) : (⟨S65536x4, .f32⟩ : BufTy).Contents (Elt F) → (⟨S65536x2, .f32⟩ : BufTy).Contents (Elt F)),
    binary main_v120 main_v121 main_v122 (addf : (⟨S65536x2, .f32⟩ : BufTy).Contents (Elt F) → (⟨S65536x2, .f32⟩ : BufTy).Contents (Elt F) → (⟨S65536x2, .f32⟩ : BufTy).Contents (Elt F)),
    nullary main_cst_20 (constant S_ .f32 0x3F000000#32),
    unary main_cst_20 main_v123 (broadcastInDim S65536x2 ![] bcast_S_S65536x2 : (⟨S_, .f32⟩ : BufTy).Contents (Elt F) → (⟨S65536x2, .f32⟩ : BufTy).Contents (Elt F)),
    binary main_v122 main_v123 main_v124 (mulf : (⟨S65536x2, .f32⟩ : BufTy).Contents (Elt F) → (⟨S65536x2, .f32⟩ : BufTy).Contents (Elt F) → (⟨S65536x2, .f32⟩ : BufTy).Contents (Elt F)),
    unary main_arg2 main_v125 ((extractStridedSlice S65536x2 ![0, 2] · slices_S65536x4_S65536x2_0_2) : (⟨S65536x4, .f32⟩ : BufTy).Contents (Elt F) → (⟨S65536x2, .f32⟩ : BufTy).Contents (Elt F)),
    unary main_arg2 main_v126 ((extractStridedSlice S65536x2 ![0, 0] · slices_S65536x4_S65536x2_0_0) : (⟨S65536x4, .f32⟩ : BufTy).Contents (Elt F) → (⟨S65536x2, .f32⟩ : BufTy).Contents (Elt F)),
    binary main_v125 main_v126 main_v127 (subf : (⟨S65536x2, .f32⟩ : BufTy).Contents (Elt F) → (⟨S65536x2, .f32⟩ : BufTy).Contents (Elt F) → (⟨S65536x2, .f32⟩ : BufTy).Contents (Elt F)),
    binary main_v116 main_v124 main_v128 (subf : (⟨S65536x2, .f32⟩ : BufTy).Contents (Elt F) → (⟨S65536x2, .f32⟩ : BufTy).Contents (Elt F) → (⟨S65536x2, .f32⟩ : BufTy).Contents (Elt F)),
    nullary main_cst_21 (constant S_ .f32 0x3DCCCCCD#32),
    unary main_cst_21 main_v129 (broadcastInDim S65536x2 ![] bcast_S_S65536x2 : (⟨S_, .f32⟩ : BufTy).Contents (Elt F) → (⟨S65536x2, .f32⟩ : BufTy).Contents (Elt F)),
    binary main_v127 main_v129 main_v130 (mulf : (⟨S65536x2, .f32⟩ : BufTy).Contents (Elt F) → (⟨S65536x2, .f32⟩ : BufTy).Contents (Elt F) → (⟨S65536x2, .f32⟩ : BufTy).Contents (Elt F)),
    binary main_v128 main_v130 main_v131 (Host.divf : (⟨S65536x2, .f32⟩ : BufTy).Contents (Elt F) → (⟨S65536x2, .f32⟩ : BufTy).Contents (Elt F) → (⟨S65536x2, .f32⟩ : BufTy).Contents (Elt F)) ]

/-- Window 17 of the operations. -/
abbrev ops17 : List (HloOp τ sig (Elt F)) :=
  [ nullary main_cst_22 (constant S_ .f32 0x358637BD#32),
    TRef.unary (TRef.of (T := ⟨S_, .f32⟩) main_cst_22) (TRef.of (T := ⟨S_, .f32⟩) main_call4_v0) id,
    TRef.unary (TRef.of (T := ⟨S_, .f32⟩) main_call4_v0) (TRef.of (T := ⟨S65536x2, .f32⟩) main_call4_v1) (broadcastInDim S65536x2 ![] bcast_S_S65536x2),
    TRef.binary (TRef.of (T := ⟨S65536x2, .f32⟩) main_call4_v1) (TRef.of (T := ⟨S65536x2, .f32⟩) main_v119) (TRef.of (T := ⟨S65536x2, .f32⟩) main_v132) maximumf,
    nullary main_cst_23 (constant S_ .f32 0x358637BD#32),
    TRef.unary (TRef.of (T := ⟨S_, .f32⟩) main_cst_23) (TRef.of (T := ⟨S_, .f32⟩) main_call5_v0) id,
    TRef.unary (TRef.of (T := ⟨S_, .f32⟩) main_call5_v0) (TRef.of (T := ⟨S65536x2, .f32⟩) main_call5_v1) (broadcastInDim S65536x2 ![] bcast_S_S65536x2),
    TRef.binary (TRef.of (T := ⟨S65536x2, .f32⟩) main_call5_v1) (TRef.of (T := ⟨S65536x2, .f32⟩) main_v127) (TRef.of (T := ⟨S65536x2, .f32⟩) main_v133) maximumf,
    binary main_v132 main_v133 main_v134 (Host.divf : (⟨S65536x2, .f32⟩ : BufTy).Contents (Elt F) → (⟨S65536x2, .f32⟩ : BufTy).Contents (Elt F) → (⟨S65536x2, .f32⟩ : BufTy).Contents (Elt F)),
    unary main_v134 main_v135 (Host.log : (⟨S65536x2, .f32⟩ : BufTy).Contents (Elt F) → (⟨S65536x2, .f32⟩ : BufTy).Contents (Elt F)),
    nullary main_cst_24 (constant S_ .f32 0x3E4CCCCD#32),
    unary main_cst_24 main_v136 (broadcastInDim S65536x2 ![] bcast_S_S65536x2 : (⟨S_, .f32⟩ : BufTy).Contents (Elt F) → (⟨S65536x2, .f32⟩ : BufTy).Contents (Elt F)),
    binary main_v135 main_v136 main_v137 (Host.divf : (⟨S65536x2, .f32⟩ : BufTy).Contents (Elt F) → (⟨S65536x2, .f32⟩ : BufTy).Contents (Elt F) → (⟨S65536x2, .f32⟩ : BufTy).Contents (Elt F)),
    binary main_v131 main_v137 main_v138 (joinHalves : (⟨S65536x2, .f32⟩ : BufTy).Contents (Elt F) → (⟨S65536x2, .f32⟩ : BufTy).Contents (Elt F) → (⟨S65536x4, .f32⟩ : BufTy).Contents (Elt F)) ]

/-- Window 18 of the operations. -/
abbrev ops18 : List (HloOp τ sig (Elt F)) :=
  [ binary main_arg1 main_v138 main_v139 (subf : (⟨S65536x4, .f32⟩ : BufTy).Contents (Elt F) → (⟨S65536x4, .f32⟩ : BufTy).Contents (Elt F) → (⟨S65536x4, .f32⟩ : BufTy).Contents (Elt F)),
    unary main_v139 main_v140 (Host.absf : (⟨S65536x4, .f32⟩ : BufTy).Contents (Elt F) → (⟨S65536x4, .f32⟩ : BufTy).Contents (Elt F)),
    nullary main_cst_25 (constant S_ .f32 0x3F800000#32),
    unary main_cst_25 main_v141 (broadcastInDim S65536x4 ![] bcast_S_S65536x4 : (⟨S_, .f32⟩ : BufTy).Contents (Elt F) → (⟨S65536x4, .f32⟩ : BufTy).Contents (Elt F)),
    binary main_v140 main_v141 main_v142 (cmpf .olt : (⟨S65536x4, .f32⟩ : BufTy).Contents (Elt F) → (⟨S65536x4, .f32⟩ : BufTy).Contents (Elt F) → (⟨S65536x4, .i1⟩ : BufTy).Contents (Elt F)),
    nullary main_cst_26 (constant S_ .f32 0x3F000000#32),
    unary main_cst_26 main_v143 (broadcastInDim S65536x4 ![] bcast_S_S65536x4 : (⟨S_, .f32⟩ : BufTy).Contents (Elt F) → (⟨S65536x4, .f32⟩ : BufTy).Contents (Elt F)),
    binary main_v143 main_v140 main_v144 (mulf : (⟨S65536x4, .f32⟩ : BufTy).Contents (Elt F) → (⟨S65536x4, .f32⟩ : BufTy).Contents (Elt F) → (⟨S65536x4, .f32⟩ : BufTy).Contents (Elt F)),
    binary main_v144 main_v140 main_v145 (mulf : (⟨S65536x4, .f32⟩ : BufTy).Contents (Elt F) → (⟨S65536x4, .f32⟩ : BufTy).Contents (Elt F) → (⟨S65536x4, .f32⟩ : BufTy).Contents (Elt F)),
    nullary main_cst_27 (constant S_ .f32 0x3F000000#32),
    unary main_cst_27 main_v146 (broadcastInDim S65536x4 ![] bcast_S_S65536x4 : (⟨S_, .f32⟩ : BufTy).Contents (Elt F) → (⟨S65536x4, .f32⟩ : BufTy).Contents (Elt F)),
    binary main_v140 main_v146 main_v147 (subf : (⟨S65536x4, .f32⟩ : BufTy).Contents (Elt F) → (⟨S65536x4, .f32⟩ : BufTy).Contents (Elt F) → (⟨S65536x4, .f32⟩ : BufTy).Contents (Elt F)),
    TRef.ternary (TRef.of (T := ⟨S65536x4, .i1⟩) main_v142) (TRef.of (T := ⟨S65536x4, .f32⟩) main_v145) (TRef.of (T := ⟨S65536x4, .f32⟩) main_v147) (TRef.of (T := ⟨S65536x4, .f32⟩) main_v148) select,
    unary main_v55 main_v149 (broadcastInDim S65536x1 ![0] bcast_S65536_S65536x1_0 : (⟨S65536, .i1⟩ : BufTy).Contents (Elt F) → (⟨S65536x1, .i1⟩ : BufTy).Contents (Elt F)) ]

/-- Window 19 of the operations. -/
abbrev ops19 : List (HloOp τ sig (Elt F)) :=
  [ unary main_v149 main_v150 (uitofp .f32 : (⟨S65536x1, .i1⟩ : BufTy).Contents (Elt F) → (⟨S65536x1, .f32⟩ : BufTy).Contents (Elt F)),
    unary main_v150 main_v151 (broadcastInDim S65536x4 ![0, 1] bcast_S65536x1_S65536x4_0_1 : (⟨S65536x1, .f32⟩ : BufTy).Contents (Elt F) → (⟨S65536x4, .f32⟩ : BufTy).Contents (Elt F)),
    binary main_v148 main_v151 main_v152 (mulf : (⟨S65536x4, .f32⟩ : BufTy).Contents (Elt F) → (⟨S65536x4, .f32⟩ : BufTy).Contents (Elt F) → (⟨S65536x4, .f32⟩ : BufTy).Contents (Elt F)),
    nullary main_cst_28 (constant S_ .f32 0x00000000#32),
    binary main_v152 main_cst_28 main_v153 ((fun x v => Host.reduceAdd x v reducesTo_S65536x4_S_d0_1 h_S_) : (⟨S65536x4, .f32⟩ : BufTy).Contents (Elt F) → (⟨S_, .f32⟩ : BufTy).Contents (Elt F) → (⟨S_, .f32⟩ : BufTy).Contents (Elt F)),
    nullary main_cst_29 (constant S_ .f32 0x40800000#32),
    binary main_v57 main_cst_29 main_v154 (mulf : (⟨S_, .f32⟩ : BufTy).Contents (Elt F) → (⟨S_, .f32⟩ : BufTy).Contents (Elt F) → (⟨S_, .f32⟩ : BufTy).Contents (Elt F)),
    binary main_v153 main_v154 main_v155 (Host.divf : (⟨S_, .f32⟩ : BufTy).Contents (Elt F) → (⟨S_, .f32⟩ : BufTy).Contents (Elt F) → (⟨S_, .f32⟩ : BufTy).Contents (Elt F)),
    nullary main_cst_30 (constant S_ .f32 0x3F800000#32),
    binary main_v104 main_cst_30 main_v156 (mulf : (⟨S_, .f32⟩ : BufTy).Contents (Elt F) → (⟨S_, .f32⟩ : BufTy).Contents (Elt F) → (⟨S_, .f32⟩ : BufTy).Contents (Elt F)),
    nullary main_cst_31 (constant S_ .f32 0x3F800000#32),
    binary main_v155 main_cst_31 main_v157 (mulf : (⟨S_, .f32⟩ : BufTy).Contents (Elt F) → (⟨S_, .f32⟩ : BufTy).Contents (Elt F) → (⟨S_, .f32⟩ : BufTy).Contents (Elt F)),
    binary main_v156 main_v157 main_v158 (addf : (⟨S_, .f32⟩ : BufTy).Contents (Elt F) → (⟨S_, .f32⟩ : BufTy).Contents (Elt F) → (⟨S_, .f32⟩ : BufTy).Contents (Elt F)) ]

/-- The windows of part 0. -/
def partOps0 : List (HloOp τ sig (Elt F)) := ops1 ++ (ops2 ++ (ops3 ++ (ops4 ++ (ops5))))

/-- The windows of part 1. -/
def partOps1 : List (HloOp τ sig (Elt F)) := ops6 ++ (ops7 ++ (ops8 ++ (ops9 ++ (ops10 ++ (ops11 ++ (ops12 ++ (ops13)))))))

/-- The windows of part 2. -/
def partOps2 : List (HloOp τ sig (Elt F)) := ops14 ++ (ops15 ++ (ops16 ++ (ops17 ++ (ops18))))

/-- The windows of part 3. -/
def partOps3 : List (HloOp τ sig (Elt F)) := ops19

/-- All the operations. -/
abbrev allOps : List (HloOp τ sig (Elt F)) := partOps0 ++ (partOps1 ++ (partOps2 ++ partOps3))

set_option maxRecDepth 8192 in
set_option maxHeartbeats 4000000 in
/-- Part 0 of the program runs its windows. -/
theorem part0_eq (c : Dev nD) : main_part0 (F := F) c = seq partOps0 := rfl

set_option maxRecDepth 8192 in
set_option maxHeartbeats 4000000 in
/-- Part 1 of the program runs its windows. -/
theorem part1_eq (c : Dev nD) : main_part1 (F := F) c = seq partOps1 := rfl

set_option maxRecDepth 8192 in
set_option maxHeartbeats 4000000 in
/-- Part 2 of the program runs its windows. -/
theorem part2_eq (c : Dev nD) : main_part2 (F := F) c = seq partOps2 := rfl

set_option maxRecDepth 8192 in
set_option maxHeartbeats 4000000 in
/-- Part 3 of the program runs its windows. -/
theorem part3_eq (c : Dev nD) : main_part3 (F := F) c = seq partOps3 := rfl

/-- The program runs its operations in order. -/
theorem main_eq (c : Dev nD) : main (F := F) c = seq allOps := by
  simp only [allOps, seq_append, ← part0_eq c, ← part1_eq c, ← part2_eq c, ← part3_eq c]; rfl

/-- No buffer of the reference is scoped. -/
theorem no_scoped_refs : (Finset.univ.filter fun b : Ref sig .tc => b.isScoped) = ∅ := by decide

/-- The reference has no scoped semaphore. -/
theorem no_scoped_sems : (Finset.univ.filter fun sm : SemLoc sig => sm.isScoped .tc) = ∅ := by decide

/-- Window 1 names TensorCore buffers only. -/
theorem sub1 : (ops1 (F := F)).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., binary_bufs_sub ..⟩

/-- Window 1 allocates nothing. -/
theorem fresh1 : (ops1 (F := F)).Forall fun op => op.fresh = ∅ :=
  ⟨rfl, rfl, rfl, rfl, rfl, rfl, rfl, rfl, rfl, rfl, rfl⟩

/-- Window 2 names TensorCore buffers only. -/
theorem sub2 : (ops2 (F := F)).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., binary_bufs_sub ..⟩

/-- Window 2 allocates nothing. -/
theorem fresh2 : (ops2 (F := F)).Forall fun op => op.fresh = ∅ :=
  ⟨rfl, rfl, rfl, rfl, rfl, rfl, rfl, rfl, rfl, rfl, rfl⟩

/-- Window 3 names TensorCore buffers only. -/
theorem sub3 : (ops3 (F := F)).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub ..⟩

/-- Window 3 allocates nothing. -/
theorem fresh3 : (ops3 (F := F)).Forall fun op => op.fresh = ∅ :=
  ⟨rfl, rfl, rfl, rfl, rfl, rfl, rfl, rfl, rfl, rfl, rfl, rfl, rfl, rfl, rfl, rfl, rfl, rfl, rfl⟩

/-- Window 4 names TensorCore buffers only. -/
theorem sub4 : (ops4 (F := F)).Forall fun op => op.bufs ⊆ tcRefs τ sig :=
  ⟨unary_bufs_sub .., reshape_bufs_sub .., unary_bufs_sub .., reshape_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub ..⟩

/-- Window 4 allocates nothing. -/
theorem fresh4 : (ops4 (F := F)).Forall fun op => op.fresh = ∅ :=
  ⟨rfl, rfl, rfl, rfl, rfl, rfl, rfl, rfl, rfl, rfl, rfl, rfl, rfl, rfl, rfl⟩

/-- Window 5 names TensorCore buffers only. -/
theorem sub5 : (ops5 (F := F)).Forall fun op => op.bufs ⊆ tcRefs τ sig :=
  ⟨nullary_bufs_sub .., binary_bufs_sub .., nullary_bufs_sub .., nullary_bufs_sub .., nullary_bufs_sub .., quaternary_bufs_sub .., quaternary_bufs_sub .., nullary_bufs_sub .., unary_bufs_sub .., binary_bufs_sub ..⟩

/-- Window 5 allocates nothing. -/
theorem fresh5 : (ops5 (F := F)).Forall fun op => op.fresh = ∅ :=
  ⟨rfl, rfl, rfl, rfl, rfl, rfl, rfl, rfl, rfl, rfl⟩

/-- Window 6 names TensorCore buffers only. -/
theorem sub6 : (ops6 (F := F)).Forall fun op => op.bufs ⊆ tcRefs τ sig :=
  ⟨unary_bufs_sub .., nullary_bufs_sub .., binary_bufs_sub ..⟩

/-- Window 6 allocates nothing. -/
theorem fresh6 : (ops6 (F := F)).Forall fun op => op.fresh = ∅ :=
  ⟨rfl, rfl, rfl⟩

/-- Window 7 names TensorCore buffers only. -/
theorem sub7 : (ops7 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., binary_bufs_sub .., unary_bufs_sub ..⟩

/-- Window 7 allocates nothing. -/
theorem fresh7 : (ops7 (F := F)).Forall fun op => op.fresh = ∅ :=
  ⟨rfl, rfl, rfl, rfl, rfl, rfl, rfl, rfl, rfl, rfl, rfl, rfl, rfl, rfl, rfl⟩

/-- Window 8 names TensorCore buffers only. -/
theorem sub8 : (ops8 (F := F)).Forall fun op => op.bufs ⊆ tcRefs τ sig :=
  ⟨unary_bufs_sub .., nullary_bufs_sub .., unary_bufs_sub .., unary_bufs_sub .., unary_bufs_sub .., ternary_bufs_sub ..⟩

/-- Window 8 allocates nothing. -/
theorem fresh8 : (ops8 (F := F)).Forall fun op => op.fresh = ∅ :=
  ⟨rfl, rfl, rfl, rfl, rfl, rfl⟩

/-- Window 9 names TensorCore buffers only. -/
theorem sub9 : (ops9 (F := F)).Forall fun op => op.bufs ⊆ tcRefs τ sig :=
  ⟨nullary_bufs_sub .., unary_bufs_sub .., binary_bufs_sub .., binary_bufs_sub .., binary_bufs_sub .., unary_bufs_sub .., unary_bufs_sub .., unary_bufs_sub .., unary_bufs_sub .., binary_bufs_sub ..⟩

/-- Window 9 allocates nothing. -/
theorem fresh9 : (ops9 (F := F)).Forall fun op => op.fresh = ∅ :=
  ⟨rfl, rfl, rfl, rfl, rfl, rfl, rfl, rfl, rfl, rfl⟩

/-- Window 10 names TensorCore buffers only. -/
theorem sub10 : (ops10 (F := F)).Forall fun op => op.bufs ⊆ tcRefs τ sig :=
  ⟨unary_bufs_sub .., unary_bufs_sub .., nullary_bufs_sub .., unary_bufs_sub .., binary_bufs_sub .., nullary_bufs_sub .., unary_bufs_sub .., binary_bufs_sub ..⟩

/-- Window 10 allocates nothing. -/
theorem fresh10 : (ops10 (F := F)).Forall fun op => op.fresh = ∅ :=
  ⟨rfl, rfl, rfl, rfl, rfl, rfl, rfl, rfl⟩

/-- Window 11 names TensorCore buffers only. -/
theorem sub11 : (ops11 (F := F)).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

/-- Window 11 allocates nothing. -/
theorem fresh11 : (ops11 (F := F)).Forall fun op => op.fresh = ∅ :=
  ⟨rfl, rfl, rfl, rfl, rfl, rfl, rfl, rfl, rfl⟩

/-- Window 12 names TensorCore buffers only. -/
theorem sub12 : (ops12 (F := F)).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., binary_bufs_sub ..⟩

/-- Window 12 allocates nothing. -/
theorem fresh12 : (ops12 (F := F)).Forall fun op => op.fresh = ∅ :=
  ⟨rfl, rfl, rfl, rfl, rfl, rfl, rfl, rfl, rfl, rfl⟩

/-- Window 13 names TensorCore buffers only. -/
theorem sub13 : (ops13 (F := F)).Forall fun op => op.bufs ⊆ tcRefs τ sig :=
  ⟨nullary_bufs_sub .., unary_bufs_sub .., binary_bufs_sub .., nullary_bufs_sub .., unary_bufs_sub .., binary_bufs_sub .., binary_bufs_sub ..⟩

/-- Window 13 allocates nothing. -/
theorem fresh13 : (ops13 (F := F)).Forall fun op => op.fresh = ∅ :=
  ⟨rfl, rfl, rfl, rfl, rfl, rfl, rfl⟩

/-- Window 14 names TensorCore buffers only. -/
theorem sub14 : (ops14 (F := F)).Forall fun op => op.bufs ⊆ tcRefs τ sig :=
  ⟨binary_bufs_sub .., nullary_bufs_sub .., binary_bufs_sub .., binary_bufs_sub ..⟩

/-- Window 14 allocates nothing. -/
theorem fresh14 : (ops14 (F := F)).Forall fun op => op.fresh = ∅ :=
  ⟨rfl, rfl, rfl, rfl⟩

/-- Window 15 names TensorCore buffers only. -/
theorem sub15 : (ops15 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

/-- Window 15 allocates nothing. -/
theorem fresh15 : (ops15 (F := F)).Forall fun op => op.fresh = ∅ :=
  ⟨rfl, rfl, rfl, rfl, rfl, rfl, rfl, rfl, rfl⟩

/-- Window 16 names TensorCore buffers only. -/
theorem sub16 : (ops16 (F := F)).Forall fun op => op.bufs ⊆ tcRefs τ sig :=
  ⟨unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., binary_bufs_sub ..⟩

/-- Window 16 allocates nothing. -/
theorem fresh16 : (ops16 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Window 17 names TensorCore buffers only. -/
theorem sub17 : (ops17 (F := F)).Forall fun op => op.bufs ⊆ tcRefs τ sig :=
  ⟨nullary_bufs_sub .., unary_bufs_sub .., unary_bufs_sub .., binary_bufs_sub .., nullary_bufs_sub .., unary_bufs_sub .., unary_bufs_sub .., binary_bufs_sub .., binary_bufs_sub .., unary_bufs_sub .., nullary_bufs_sub .., unary_bufs_sub .., binary_bufs_sub .., binary_bufs_sub ..⟩

/-- Window 17 allocates nothing. -/
theorem fresh17 : (ops17 (F := F)).Forall fun op => op.fresh = ∅ :=
  ⟨rfl, rfl, rfl, rfl, rfl, rfl, rfl, rfl, rfl, rfl, rfl, rfl, rfl, rfl⟩

/-- Window 18 names TensorCore buffers only. -/
theorem sub18 : (ops18 (F := F)).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub ..⟩

/-- Window 18 allocates nothing. -/
theorem fresh18 : (ops18 (F := F)).Forall fun op => op.fresh = ∅ :=
  ⟨rfl, rfl, rfl, rfl, rfl, rfl, rfl, rfl, rfl, rfl, rfl, rfl, rfl, rfl⟩

/-- Window 19 names TensorCore buffers only. -/
theorem sub19 : (ops19 (F := F)).Forall fun op => op.bufs ⊆ tcRefs τ sig :=
  ⟨unary_bufs_sub .., unary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub ..⟩

/-- Window 19 allocates nothing. -/
theorem fresh19 : (ops19 (F := F)).Forall fun op => op.fresh = ∅ :=
  ⟨rfl, rfl, rfl, rfl, rfl, rfl, rfl, rfl, rfl, rfl, rfl, rfl, rfl⟩

/-- The operations name TensorCore buffers only. -/
theorem all_sub : (allOps (F := F)).Forall fun op => op.bufs ⊆ tcRefs τ sig := by
  refine List.forall_iff_forall_mem.mpr fun op hop => ?_
  simp only [allOps, partOps0, partOps1, partOps2, partOps3, List.mem_append, or_assoc] at hop
  rcases hop with h | h | h | h | h | h | h | h | h | h | h | h | h | h | h | h | h | h | h
  · exact List.forall_iff_forall_mem.mp sub1 op h
  · exact List.forall_iff_forall_mem.mp sub2 op h
  · exact List.forall_iff_forall_mem.mp sub3 op h
  · exact List.forall_iff_forall_mem.mp sub4 op h
  · exact List.forall_iff_forall_mem.mp sub5 op h
  · exact List.forall_iff_forall_mem.mp sub6 op h
  · exact List.forall_iff_forall_mem.mp sub7 op h
  · exact List.forall_iff_forall_mem.mp sub8 op h
  · exact List.forall_iff_forall_mem.mp sub9 op h
  · exact List.forall_iff_forall_mem.mp sub10 op h
  · exact List.forall_iff_forall_mem.mp sub11 op h
  · exact List.forall_iff_forall_mem.mp sub12 op h
  · exact List.forall_iff_forall_mem.mp sub13 op h
  · exact List.forall_iff_forall_mem.mp sub14 op h
  · exact List.forall_iff_forall_mem.mp sub15 op h
  · exact List.forall_iff_forall_mem.mp sub16 op h
  · exact List.forall_iff_forall_mem.mp sub17 op h
  · exact List.forall_iff_forall_mem.mp sub18 op h
  · exact List.forall_iff_forall_mem.mp sub19 op h

/-- The operations allocate nothing. -/
theorem all_fresh : (allOps (F := F)).Forall fun op => op.fresh = ∅ := by
  refine List.forall_iff_forall_mem.mpr fun op hop => ?_
  simp only [allOps, partOps0, partOps1, partOps2, partOps3, List.mem_append, or_assoc] at hop
  rcases hop with h | h | h | h | h | h | h | h | h | h | h | h | h | h | h | h | h | h | h
  · exact List.forall_iff_forall_mem.mp fresh1 op h
  · exact List.forall_iff_forall_mem.mp fresh2 op h
  · exact List.forall_iff_forall_mem.mp fresh3 op h
  · exact List.forall_iff_forall_mem.mp fresh4 op h
  · exact List.forall_iff_forall_mem.mp fresh5 op h
  · exact List.forall_iff_forall_mem.mp fresh6 op h
  · exact List.forall_iff_forall_mem.mp fresh7 op h
  · exact List.forall_iff_forall_mem.mp fresh8 op h
  · exact List.forall_iff_forall_mem.mp fresh9 op h
  · exact List.forall_iff_forall_mem.mp fresh10 op h
  · exact List.forall_iff_forall_mem.mp fresh11 op h
  · exact List.forall_iff_forall_mem.mp fresh12 op h
  · exact List.forall_iff_forall_mem.mp fresh13 op h
  · exact List.forall_iff_forall_mem.mp fresh14 op h
  · exact List.forall_iff_forall_mem.mp fresh15 op h
  · exact List.forall_iff_forall_mem.mp fresh16 op h
  · exact List.forall_iff_forall_mem.mp fresh17 op h
  · exact List.forall_iff_forall_mem.mp fresh18 op h
  · exact List.forall_iff_forall_mem.mp fresh19 op h

/-- The buffers window 1 writes. -/
def wr1 : List (Ref sig .tc) := [main_v0, main_v1, main_v2, main_v3, main_v4, main_v5, main_v6, main_v7, main_v8, main_v9, main_v10]

/-- Window 1 writes those buffers and no other. -/
theorem keep1 {r : Ref sig .tc} (h : r ∉ wr1) (V : Valuation τ sig (Elt F)) :
    after ops1 V (Proc.devRef .tc r) = V (Proc.devRef .tc r) :=
  after_of_writes_sub ops1 V (forall_writes_sub_of_map rfl) h

/-- The buffers window 2 writes. -/
def wr2 : List (Ref sig .tc) := [main_v11, main_v12, main_v13, main_v14, main_v15, main_v16, main_v17, main_v18, main_v19, main_v20, main_v21]

/-- Window 2 writes those buffers and no other. -/
theorem keep2 {r : Ref sig .tc} (h : r ∉ wr2) (V : Valuation τ sig (Elt F)) :
    after ops2 V (Proc.devRef .tc r) = V (Proc.devRef .tc r) :=
  after_of_writes_sub ops2 V (forall_writes_sub_of_map rfl) h

/-- The buffers window 3 writes. -/
def wr3 : List (Ref sig .tc) := [main_v22, main_v23, main_v24, main_v25, main_v26, main_v27, main_v28, main_v29, main_v30, main_v31, main_v32, main_v33, main_v34, main_v35, main_v36, main_cst, main_call0_v0, main_call0_v1, main_v37]

/-- Window 3 writes those buffers and no other. -/
theorem keep3 {r : Ref sig .tc} (h : r ∉ wr3) (V : Valuation τ sig (Elt F)) :
    after ops3 V (Proc.devRef .tc r) = V (Proc.devRef .tc r) :=
  after_of_writes_sub ops3 V (forall_writes_sub_of_map rfl) h

/-- The buffers window 4 writes. -/
def wr4 : List (Ref sig .tc) := [main_v38, main_v39, main_v40, main_v41, main_v42, main_v43, main_v44, main_v45, main_v46, main_v47, main_v48, main_cst_0, main_v49, main_v50, main_v51]

/-- Window 4 writes those buffers and no other. -/
theorem keep4 {r : Ref sig .tc} (h : r ∉ wr4) (V : Valuation τ sig (Elt F)) :
    after ops4 V (Proc.devRef .tc r) = V (Proc.devRef .tc r) :=
  after_of_writes_sub ops4 V (forall_writes_sub_of_map rfl) h

/-- The buffers window 5 writes. -/
def wr5 : List (Ref sig .tc) := [main_cst_1, main_v52, main_call1_v0, main_call1_cst, main_call1_c, main_call1_v1_0, main_v53, main_cst_2, main_v54, main_v55]

/-- Window 5 writes those buffers and no other. -/
theorem keep5 {r : Ref sig .tc} (h : r ∉ wr5) (V : Valuation τ sig (Elt F)) :
    after ops5 V (Proc.devRef .tc r) = V (Proc.devRef .tc r) :=
  after_of_writes_sub ops5 V (forall_writes_sub_of_map rfl) h

/-- The buffers window 6 writes. -/
def wr6 : List (Ref sig .tc) := [main_v56, main_cst_3, main_v57]

/-- Window 6 writes those buffers and no other. -/
theorem keep6 {r : Ref sig .tc} (h : r ∉ wr6) (V : Valuation τ sig (Elt F)) :
    after ops6 V (Proc.devRef .tc r) = V (Proc.devRef .tc r) :=
  after_of_writes_sub ops6 V (forall_writes_sub_of_map rfl) h

/-- The buffers window 7 writes. -/
def wr7 : List (Ref sig .tc) := [main_c, main_v58, main_v59, main_c_4, main_v60, main_v61, main_v62, main_v63, main_v64, main_call2_v0, main_call2_v1, main_call2_v2, main_call2_v3, main_call2_v4, main_v65]

/-- Window 7 writes those buffers and no other. -/
theorem keep7 {r : Ref sig .tc} (h : r ∉ wr7) (V : Valuation τ sig (Elt F)) :
    after ops7 V (Proc.devRef .tc r) = V (Proc.devRef .tc r) :=
  after_of_writes_sub ops7 V (forall_writes_sub_of_map rfl) h

/-- The buffers window 8 writes. -/
def wr8 : List (Ref sig .tc) := [main_v66, main_cst_5, main_call3_v0, main_call3_v1, main_call3_v2, main_v67]

/-- Window 8 writes those buffers and no other. -/
theorem keep8 {r : Ref sig .tc} (h : r ∉ wr8) (V : Valuation τ sig (Elt F)) :
    after ops8 V (Proc.devRef .tc r) = V (Proc.devRef .tc r) :=
  after_of_writes_sub ops8 V (forall_writes_sub_of_map rfl) h

/-- The buffers window 9 writes. -/
def wr9 : List (Ref sig .tc) := [main_cst_6, main_v68, main_v69, main_v70, main_v71, main_v72, main_v73, main_v74, main_v75, main_v76]

/-- Window 9 writes those buffers and no other. -/
theorem keep9 {r : Ref sig .tc} (h : r ∉ wr9) (V : Valuation τ sig (Elt F)) :
    after ops9 V (Proc.devRef .tc r) = V (Proc.devRef .tc r) :=
  after_of_writes_sub ops9 V (forall_writes_sub_of_map rfl) h

/-- The buffers window 10 writes. -/
def wr10 : List (Ref sig .tc) := [main_v77, main_v78, main_cst_7, main_v79, main_v80, main_cst_8, main_v81, main_v82]

/-- Window 10 writes those buffers and no other. -/
theorem keep10 {r : Ref sig .tc} (h : r ∉ wr10) (V : Valuation τ sig (Elt F)) :
    after ops10 V (Proc.devRef .tc r) = V (Proc.devRef .tc r) :=
  after_of_writes_sub ops10 V (forall_writes_sub_of_map rfl) h

/-- The buffers window 11 writes. -/
def wr11 : List (Ref sig .tc) := [main_v83, main_cst_9, main_v84, main_v85, main_cst_10, main_v86, main_v87, main_v88, main_v89]

/-- Window 11 writes those buffers and no other. -/
theorem keep11 {r : Ref sig .tc} (h : r ∉ wr11) (V : Valuation τ sig (Elt F)) :
    after ops11 V (Proc.devRef .tc r) = V (Proc.devRef .tc r) :=
  after_of_writes_sub ops11 V (forall_writes_sub_of_map rfl) h

/-- The buffers window 12 writes. -/
def wr12 : List (Ref sig .tc) := [main_cst_11, main_v90, main_v91, main_cst_12, main_v92, main_v93, main_cst_13, main_v94, main_v95, main_v96]

/-- Window 12 writes those buffers and no other. -/
theorem keep12 {r : Ref sig .tc} (h : r ∉ wr12) (V : Valuation τ sig (Elt F)) :
    after ops12 V (Proc.devRef .tc r) = V (Proc.devRef .tc r) :=
  after_of_writes_sub ops12 V (forall_writes_sub_of_map rfl) h

/-- The buffers window 13 writes. -/
def wr13 : List (Ref sig .tc) := [main_cst_14, main_v97, main_v98, main_cst_15, main_v99, main_v100, main_v101]

/-- Window 13 writes those buffers and no other. -/
theorem keep13 {r : Ref sig .tc} (h : r ∉ wr13) (V : Valuation τ sig (Elt F)) :
    after ops13 V (Proc.devRef .tc r) = V (Proc.devRef .tc r) :=
  after_of_writes_sub ops13 V (forall_writes_sub_of_map rfl) h

/-- The buffers window 14 writes. -/
def wr14 : List (Ref sig .tc) := [main_v102, main_cst_16, main_v103, main_v104]

/-- Window 14 writes those buffers and no other. -/
theorem keep14 {r : Ref sig .tc} (h : r ∉ wr14) (V : Valuation τ sig (Elt F)) :
    after ops14 V (Proc.devRef .tc r) = V (Proc.devRef .tc r) :=
  after_of_writes_sub ops14 V (forall_writes_sub_of_map rfl) h

/-- The buffers window 15 writes. -/
def wr15 : List (Ref sig .tc) := [main_c_17, main_v105, main_v106, main_c_18, main_v107, main_v108, main_v109, main_v110, main_v111]

/-- Window 15 writes those buffers and no other. -/
theorem keep15 {r : Ref sig .tc} (h : r ∉ wr15) (V : Valuation τ sig (Elt F)) :
    after ops15 V (Proc.devRef .tc r) = V (Proc.devRef .tc r) :=
  after_of_writes_sub ops15 V (forall_writes_sub_of_map rfl) h

/-- The buffers window 16 writes. -/
def wr16 : List (Ref sig .tc) := [main_v112, main_v113, main_v114, main_cst_19, main_v115, main_v116, main_v117, main_v118, main_v119, main_v120, main_v121, main_v122, main_cst_20, main_v123, main_v124, main_v125, main_v126, main_v127, main_v128, main_cst_21, main_v129, main_v130, main_v131]

/-- Window 16 writes those buffers and no other. -/
theorem keep16 {r : Ref sig .tc} (h : r ∉ wr16) (V : Valuation τ sig (Elt F)) :
    after ops16 V (Proc.devRef .tc r) = V (Proc.devRef .tc r) :=
  after_of_writes_sub ops16 V (forall_writes_sub_of_map rfl) h

/-- The buffers window 17 writes. -/
def wr17 : List (Ref sig .tc) := [main_cst_22, main_call4_v0, main_call4_v1, main_v132, main_cst_23, main_call5_v0, main_call5_v1, main_v133, main_v134, main_v135, main_cst_24, main_v136, main_v137, main_v138]

/-- Window 17 writes those buffers and no other. -/
theorem keep17 {r : Ref sig .tc} (h : r ∉ wr17) (V : Valuation τ sig (Elt F)) :
    after ops17 V (Proc.devRef .tc r) = V (Proc.devRef .tc r) :=
  after_of_writes_sub ops17 V (forall_writes_sub_of_map rfl) h

/-- The buffers window 18 writes. -/
def wr18 : List (Ref sig .tc) := [main_v139, main_v140, main_cst_25, main_v141, main_v142, main_cst_26, main_v143, main_v144, main_v145, main_cst_27, main_v146, main_v147, main_v148, main_v149]

/-- Window 18 writes those buffers and no other. -/
theorem keep18 {r : Ref sig .tc} (h : r ∉ wr18) (V : Valuation τ sig (Elt F)) :
    after ops18 V (Proc.devRef .tc r) = V (Proc.devRef .tc r) :=
  after_of_writes_sub ops18 V (forall_writes_sub_of_map rfl) h

/-- The buffers window 19 writes. -/
def wr19 : List (Ref sig .tc) := [main_v150, main_v151, main_v152, main_cst_28, main_v153, main_cst_29, main_v154, main_v155, main_cst_30, main_v156, main_cst_31, main_v157, main_v158]

/-- Window 19 writes those buffers and no other. -/
theorem keep19 {r : Ref sig .tc} (h : r ∉ wr19) (V : Valuation τ sig (Elt F)) :
    after ops19 V (Proc.devRef .tc r) = V (Proc.devRef .tc r) :=
  after_of_writes_sub ops19 V (forall_writes_sub_of_map rfl) h

set_option maxRecDepth 8192 in
set_option maxHeartbeats 2000000 in
/-- Window 1 leaves the area of each target box. -/
theorem win_v10 (V : Valuation τ sig (Elt F)) : after ops1 V (no_index (Proc.devRef .tc main_v10))
    = st_v10 (V (Proc.devRef .tc main_arg3)) := by
  simp only [ops1, TRef.nullary, TRef.unary, TRef.binary, TRef.ternary, TRef.quaternary, TRef.toBuf, TRef.ofBuf, cast_eq]
  after_results_simp <;> rfl

set_option maxRecDepth 8192 in
set_option maxHeartbeats 2000000 in
/-- Window 2 leaves the area of each anchor. -/
theorem win_v21 (V : Valuation τ sig (Elt F)) : after ops2 V (no_index (Proc.devRef .tc main_v21))
    = st_v21 (V (Proc.devRef .tc main_arg2)) := by
  simp only [ops2, TRef.nullary, TRef.unary, TRef.binary, TRef.ternary, TRef.quaternary, TRef.toBuf, TRef.ofBuf, cast_eq]
  after_results_simp <;> rfl

set_option maxRecDepth 8192 in
set_option maxHeartbeats 2000000 in
/-- Window 3 leaves the two extents of each overlap, cut off at zero. -/
theorem win_v37 (V : Valuation τ sig (Elt F)) : after ops3 V (no_index (Proc.devRef .tc main_v37))
    = st_v37 (V (Proc.devRef .tc main_arg2)) (V (Proc.devRef .tc main_arg3)) := by
  simp only [ops3, TRef.nullary, TRef.unary, TRef.binary, TRef.ternary, TRef.quaternary, TRef.toBuf, TRef.ofBuf, cast_eq]
  after_results_simp <;> rfl

set_option maxRecDepth 8192 in
set_option maxHeartbeats 2000000 in
/-- Window 4 leaves the IoU of every target with every anchor. -/
theorem win_v51 (V : Valuation τ sig (Elt F)) : after ops4 V (no_index (Proc.devRef .tc main_v51))
    = st_v51 (V (Proc.devRef .tc main_v10)) (V (Proc.devRef .tc main_v21)) (V (Proc.devRef .tc main_v37)) := by
  simp only [ops4, TRef.nullary, TRef.unary, TRef.binary, TRef.ternary, TRef.quaternary, TRef.toBuf, TRef.ofBuf, cast_eq]
  after_results_simp <;> rfl

set_option maxRecDepth 8192 in
set_option maxHeartbeats 2000000 in
/-- Window 5 leaves the index of the best target of each anchor. -/
theorem win_v53 (V : Valuation τ sig (Elt F)) : after ops5 V (no_index (Proc.devRef .tc main_v53))
    = st_v53 (V (Proc.devRef .tc main_v51)) := by
  simp only [ops5, TRef.nullary, TRef.unary, TRef.binary, TRef.ternary, TRef.quaternary, TRef.toBuf, TRef.ofBuf, cast_eq]
  after_results_simp <;> rfl

set_option maxRecDepth 8192 in
set_option maxHeartbeats 2000000 in
/-- Window 5 leaves which anchors match. -/
theorem win_v55 (V : Valuation τ sig (Elt F)) : after ops5 V (no_index (Proc.devRef .tc main_v55))
    = st_v55 (V (Proc.devRef .tc main_v51)) := by
  simp only [ops5, TRef.nullary, TRef.unary, TRef.binary, TRef.ternary, TRef.quaternary, TRef.toBuf, TRef.ofBuf, cast_eq]
  after_results_simp <;> rfl

set_option maxRecDepth 8192 in
set_option maxHeartbeats 2000000 in
/-- Window 6 leaves the number of matching anchors. -/
theorem win_v57 (V : Valuation τ sig (Elt F)) : after ops6 V (no_index (Proc.devRef .tc main_v57))
    = st_v57 (V (Proc.devRef .tc main_v55)) := by
  simp only [ops6, TRef.nullary, TRef.unary, TRef.binary, TRef.ternary, TRef.quaternary, TRef.toBuf, TRef.ofBuf, cast_eq]
  after_results_simp <;> rfl

set_option maxRecDepth 8192 in
set_option maxHeartbeats 2000000 in
/-- Window 7 leaves the one-hot row of the best target's label. -/
theorem win_v65 (V : Valuation τ sig (Elt F)) : after ops7 V (no_index (Proc.devRef .tc main_v65))
    = st_v65 (V (Proc.devRef .tc main_arg4)) (V (Proc.devRef .tc main_v53)) := by
  simp only [ops7, TRef.nullary, TRef.unary, TRef.binary, TRef.ternary, TRef.quaternary, TRef.toBuf, TRef.ofBuf, cast_eq]
  after_results_simp <;> rfl

set_option maxRecDepth 8192 in
set_option maxHeartbeats 2000000 in
/-- Window 8 leaves the class targets. -/
theorem win_v67 (V : Valuation τ sig (Elt F)) : after ops8 V (no_index (Proc.devRef .tc main_v67))
    = st_v67 (V (Proc.devRef .tc main_v55)) (V (Proc.devRef .tc main_v65)) := by
  simp only [ops8, TRef.nullary, TRef.unary, TRef.binary, TRef.ternary, TRef.quaternary, TRef.toBuf, TRef.ofBuf, cast_eq]
  after_results_simp <;> rfl

set_option maxRecDepth 8192 in
set_option maxHeartbeats 2000000 in
/-- Window 9 leaves the cross entropy of each logit. -/
theorem win_v76 (V : Valuation τ sig (Elt F)) : after ops9 V (no_index (Proc.devRef .tc main_v76))
    = st_v76 (V (Proc.devRef .tc main_arg0)) (V (Proc.devRef .tc main_v67)) := by
  simp only [ops9, TRef.nullary, TRef.unary, TRef.binary, TRef.ternary, TRef.quaternary, TRef.toBuf, TRef.ofBuf, cast_eq]
  after_results_simp <;> rfl

set_option maxRecDepth 8192 in
set_option maxHeartbeats 2000000 in
/-- Window 10 leaves the probability of each logit. -/
theorem win_v82 (V : Valuation τ sig (Elt F)) : after ops10 V (no_index (Proc.devRef .tc main_v82))
    = st_v82 (V (Proc.devRef .tc main_arg0)) := by
  simp only [ops10, TRef.nullary, TRef.unary, TRef.binary, TRef.ternary, TRef.quaternary, TRef.toBuf, TRef.ofBuf, cast_eq]
  after_results_simp <;> rfl

set_option maxRecDepth 8192 in
set_option maxHeartbeats 2000000 in
/-- Window 11 leaves the probability given to the right answer. -/
theorem win_v89 (V : Valuation τ sig (Elt F)) : after ops11 V (no_index (Proc.devRef .tc main_v89))
    = st_v89 (V (Proc.devRef .tc main_v67)) (V (Proc.devRef .tc main_v82)) := by
  simp only [ops11, TRef.nullary, TRef.unary, TRef.binary, TRef.ternary, TRef.quaternary, TRef.toBuf, TRef.ofBuf, cast_eq]
  after_results_simp <;> rfl

set_option maxRecDepth 8192 in
set_option maxHeartbeats 2000000 in
/-- Window 12 leaves the class weight. -/
theorem win_v96 (V : Valuation τ sig (Elt F)) : after ops12 V (no_index (Proc.devRef .tc main_v96))
    = st_v96 (V (Proc.devRef .tc main_v67)) := by
  simp only [ops12, TRef.nullary, TRef.unary, TRef.binary, TRef.ternary, TRef.quaternary, TRef.toBuf, TRef.ofBuf, cast_eq]
  after_results_simp <;> rfl

set_option maxRecDepth 8192 in
set_option maxHeartbeats 2000000 in
/-- Window 13 leaves the class weight times the focal factor. -/
theorem win_v101 (V : Valuation τ sig (Elt F)) : after ops13 V (no_index (Proc.devRef .tc main_v101))
    = st_v101 (V (Proc.devRef .tc main_v89)) (V (Proc.devRef .tc main_v96)) := by
  simp only [ops13, TRef.nullary, TRef.unary, TRef.binary, TRef.ternary, TRef.quaternary, TRef.toBuf, TRef.ofBuf, cast_eq]
  after_results_simp <;> rfl

set_option maxRecDepth 8192 in
set_option maxHeartbeats 2000000 in
/-- Window 14 leaves the focal loss. -/
theorem win_v104 (V : Valuation τ sig (Elt F)) : after ops14 V (no_index (Proc.devRef .tc main_v104))
    = st_v104 (V (Proc.devRef .tc main_v57)) (V (Proc.devRef .tc main_v76)) (V (Proc.devRef .tc main_v101)) := by
  simp only [ops14, TRef.nullary, TRef.unary, TRef.binary, TRef.ternary, TRef.quaternary, TRef.toBuf, TRef.ofBuf, cast_eq]
  after_results_simp <;> rfl

set_option maxRecDepth 8192 in
set_option maxHeartbeats 2000000 in
/-- Window 15 leaves the box of the best target of each anchor. -/
theorem win_v111 (V : Valuation τ sig (Elt F)) : after ops15 V (no_index (Proc.devRef .tc main_v111))
    = st_v111 (V (Proc.devRef .tc main_arg3)) (V (Proc.devRef .tc main_v53)) := by
  simp only [ops15, TRef.nullary, TRef.unary, TRef.binary, TRef.ternary, TRef.quaternary, TRef.toBuf, TRef.ofBuf, cast_eq]
  after_results_simp <;> rfl

set_option maxRecDepth 8192 in
set_option maxHeartbeats 2000000 in
/-- Window 16 leaves the extents of the matched box. -/
theorem win_v119 (V : Valuation τ sig (Elt F)) : after ops16 V (no_index (Proc.devRef .tc main_v119))
    = st_v119 (V (Proc.devRef .tc main_v111)) := by
  simp only [ops16, TRef.nullary, TRef.unary, TRef.binary, TRef.ternary, TRef.quaternary, TRef.toBuf, TRef.ofBuf, cast_eq]
  after_results_simp <;> rfl

set_option maxRecDepth 8192 in
set_option maxHeartbeats 2000000 in
/-- Window 16 leaves the extents of each anchor. -/
theorem win_v127 (V : Valuation τ sig (Elt F)) : after ops16 V (no_index (Proc.devRef .tc main_v127))
    = st_v127 (V (Proc.devRef .tc main_arg2)) := by
  simp only [ops16, TRef.nullary, TRef.unary, TRef.binary, TRef.ternary, TRef.quaternary, TRef.toBuf, TRef.ofBuf, cast_eq]
  after_results_simp <;> rfl

set_option maxRecDepth 8192 in
set_option maxHeartbeats 2000000 in
/-- Window 16 leaves the encoded centre offsets. -/
theorem win_v131 (V : Valuation τ sig (Elt F)) : after ops16 V (no_index (Proc.devRef .tc main_v131))
    = st_v131 (V (Proc.devRef .tc main_arg2)) (V (Proc.devRef .tc main_v111)) := by
  simp only [ops16, TRef.nullary, TRef.unary, TRef.binary, TRef.ternary, TRef.quaternary, TRef.toBuf, TRef.ofBuf, cast_eq]
  after_results_simp <;> rfl

set_option maxRecDepth 8192 in
set_option maxHeartbeats 2000000 in
/-- Window 17 leaves the encoded box of each anchor. -/
theorem win_v138 (V : Valuation τ sig (Elt F)) : after ops17 V (no_index (Proc.devRef .tc main_v138))
    = st_v138 (V (Proc.devRef .tc main_v119)) (V (Proc.devRef .tc main_v127)) (V (Proc.devRef .tc main_v131)) := by
  simp only [ops17, TRef.nullary, TRef.unary, TRef.binary, TRef.ternary, TRef.quaternary, TRef.toBuf, TRef.ofBuf, cast_eq]
  after_results_simp <;> rfl

set_option maxRecDepth 8192 in
set_option maxHeartbeats 2000000 in
/-- Window 18 leaves the smooth L1 loss of each coordinate. -/
theorem win_v148 (V : Valuation τ sig (Elt F)) : after ops18 V (no_index (Proc.devRef .tc main_v148))
    = st_v148 (V (Proc.devRef .tc main_arg1)) (V (Proc.devRef .tc main_v138)) := by
  simp only [ops18, TRef.nullary, TRef.unary, TRef.binary, TRef.ternary, TRef.quaternary, TRef.toBuf, TRef.ofBuf, cast_eq]
  after_results_simp <;> rfl

set_option maxRecDepth 8192 in
set_option maxHeartbeats 2000000 in
/-- Window 18 leaves the matches as a column. -/
theorem win_v149 (V : Valuation τ sig (Elt F)) : after ops18 V (no_index (Proc.devRef .tc main_v149))
    = st_v149 (V (Proc.devRef .tc main_v55)) := by
  simp only [ops18, TRef.nullary, TRef.unary, TRef.binary, TRef.ternary, TRef.quaternary, TRef.toBuf, TRef.ofBuf, cast_eq]
  after_results_simp <;> rfl

set_option maxRecDepth 8192 in
set_option maxHeartbeats 2000000 in
/-- Window 19 leaves the class loss returned. -/
theorem win_v156 (V : Valuation τ sig (Elt F)) : after ops19 V (no_index (Proc.devRef .tc main_v156))
    = st_v156 (V (Proc.devRef .tc main_v104)) := by
  simp only [ops19, TRef.nullary, TRef.unary, TRef.binary, TRef.ternary, TRef.quaternary, TRef.toBuf, TRef.ofBuf, cast_eq]
  after_results_simp <;> rfl

set_option maxRecDepth 8192 in
set_option maxHeartbeats 2000000 in
/-- Window 19 leaves the box loss returned. -/
theorem win_v157 (V : Valuation τ sig (Elt F)) : after ops19 V (no_index (Proc.devRef .tc main_v157))
    = st_v157 (V (Proc.devRef .tc main_v57)) (V (Proc.devRef .tc main_v148)) (V (Proc.devRef .tc main_v149)) := by
  simp only [ops19, TRef.nullary, TRef.unary, TRef.binary, TRef.ternary, TRef.quaternary, TRef.toBuf, TRef.ofBuf, cast_eq]
  after_results_simp <;> rfl

set_option maxRecDepth 8192 in
set_option maxHeartbeats 2000000 in
/-- Window 19 leaves the sum of both losses. -/
theorem win_v158 (V : Valuation τ sig (Elt F)) : after ops19 V (no_index (Proc.devRef .tc main_v158))
    = st_v158 (V (Proc.devRef .tc main_v57)) (V (Proc.devRef .tc main_v104)) (V (Proc.devRef .tc main_v148)) (V (Proc.devRef .tc main_v149)) := by
  simp only [ops19, TRef.nullary, TRef.unary, TRef.binary, TRef.ternary, TRef.quaternary, TRef.toBuf, TRef.ofBuf, cast_eq]
  after_results_simp <;> rfl

/-- The contents after the first windows. -/
def val0 (V0 : Valuation τ sig (Elt F)) : Valuation τ sig (Elt F) := V0

/-- At the start the argument holds its contents. -/
theorem val0_arg0 (V0 : Valuation τ sig (Elt F)) : val0 V0 (Proc.devRef .tc main_arg0) = V0 (Proc.devRef .tc main_arg0) := rfl

/-- At the start the argument holds its contents. -/
theorem val0_arg1 (V0 : Valuation τ sig (Elt F)) : val0 V0 (Proc.devRef .tc main_arg1) = V0 (Proc.devRef .tc main_arg1) := rfl

/-- At the start the argument holds its contents. -/
theorem val0_arg2 (V0 : Valuation τ sig (Elt F)) : val0 V0 (Proc.devRef .tc main_arg2) = V0 (Proc.devRef .tc main_arg2) := rfl

/-- At the start the argument holds its contents. -/
theorem val0_arg3 (V0 : Valuation τ sig (Elt F)) : val0 V0 (Proc.devRef .tc main_arg3) = V0 (Proc.devRef .tc main_arg3) := rfl

/-- At the start the argument holds its contents. -/
theorem val0_arg4 (V0 : Valuation τ sig (Elt F)) : val0 V0 (Proc.devRef .tc main_arg4) = V0 (Proc.devRef .tc main_arg4) := rfl

/-- The contents after 1 windows. -/
def val1 (V0 : Valuation τ sig (Elt F)) : Valuation τ sig (Elt F) := after ops1 (val0 V0)

/-- After 1 windows: kept. -/
theorem val1_arg0 (V0 : Valuation τ sig (Elt F)) : val1 V0 (Proc.devRef .tc main_arg0) = V0 (Proc.devRef .tc main_arg0) :=
  (keep1 (by decide) _).trans (val0_arg0 V0)

/-- After 1 windows: kept. -/
theorem val1_arg1 (V0 : Valuation τ sig (Elt F)) : val1 V0 (Proc.devRef .tc main_arg1) = V0 (Proc.devRef .tc main_arg1) :=
  (keep1 (by decide) _).trans (val0_arg1 V0)

/-- After 1 windows: kept. -/
theorem val1_arg2 (V0 : Valuation τ sig (Elt F)) : val1 V0 (Proc.devRef .tc main_arg2) = V0 (Proc.devRef .tc main_arg2) :=
  (keep1 (by decide) _).trans (val0_arg2 V0)

/-- After 1 windows: kept. -/
theorem val1_arg3 (V0 : Valuation τ sig (Elt F)) : val1 V0 (Proc.devRef .tc main_arg3) = V0 (Proc.devRef .tc main_arg3) :=
  (keep1 (by decide) _).trans (val0_arg3 V0)

/-- After 1 windows: kept. -/
theorem val1_arg4 (V0 : Valuation τ sig (Elt F)) : val1 V0 (Proc.devRef .tc main_arg4) = V0 (Proc.devRef .tc main_arg4) :=
  (keep1 (by decide) _).trans (val0_arg4 V0)

/-- After 1 windows: the area of each target box. -/
theorem val1_v10 (V0 : Valuation τ sig (Elt F)) : val1 V0 (Proc.devRef .tc main_v10) = res_v10 (V0 (Proc.devRef .tc main_arg3)) :=
  (win_v10 _).trans (by rw [val0_arg3]; rfl)

/-- The contents after 2 windows. -/
def val2 (V0 : Valuation τ sig (Elt F)) : Valuation τ sig (Elt F) := after ops2 (val1 V0)

/-- After 2 windows: kept. -/
theorem val2_arg0 (V0 : Valuation τ sig (Elt F)) : val2 V0 (Proc.devRef .tc main_arg0) = V0 (Proc.devRef .tc main_arg0) :=
  (keep2 (by decide) _).trans (val1_arg0 V0)

/-- After 2 windows: kept. -/
theorem val2_arg1 (V0 : Valuation τ sig (Elt F)) : val2 V0 (Proc.devRef .tc main_arg1) = V0 (Proc.devRef .tc main_arg1) :=
  (keep2 (by decide) _).trans (val1_arg1 V0)

/-- After 2 windows: kept. -/
theorem val2_arg2 (V0 : Valuation τ sig (Elt F)) : val2 V0 (Proc.devRef .tc main_arg2) = V0 (Proc.devRef .tc main_arg2) :=
  (keep2 (by decide) _).trans (val1_arg2 V0)

/-- After 2 windows: kept. -/
theorem val2_arg3 (V0 : Valuation τ sig (Elt F)) : val2 V0 (Proc.devRef .tc main_arg3) = V0 (Proc.devRef .tc main_arg3) :=
  (keep2 (by decide) _).trans (val1_arg3 V0)

/-- After 2 windows: kept. -/
theorem val2_arg4 (V0 : Valuation τ sig (Elt F)) : val2 V0 (Proc.devRef .tc main_arg4) = V0 (Proc.devRef .tc main_arg4) :=
  (keep2 (by decide) _).trans (val1_arg4 V0)

/-- After 2 windows: kept. -/
theorem val2_v10 (V0 : Valuation τ sig (Elt F)) : val2 V0 (Proc.devRef .tc main_v10) = res_v10 (V0 (Proc.devRef .tc main_arg3)) :=
  (keep2 (by decide) _).trans (val1_v10 V0)

/-- After 2 windows: the area of each anchor. -/
theorem val2_v21 (V0 : Valuation τ sig (Elt F)) : val2 V0 (Proc.devRef .tc main_v21) = res_v21 (V0 (Proc.devRef .tc main_arg2)) :=
  (win_v21 _).trans (by rw [val1_arg2]; rfl)

/-- The contents after 3 windows. -/
def val3 (V0 : Valuation τ sig (Elt F)) : Valuation τ sig (Elt F) := after ops3 (val2 V0)

/-- After 3 windows: kept. -/
theorem val3_arg0 (V0 : Valuation τ sig (Elt F)) : val3 V0 (Proc.devRef .tc main_arg0) = V0 (Proc.devRef .tc main_arg0) :=
  (keep3 (by decide) _).trans (val2_arg0 V0)

/-- After 3 windows: kept. -/
theorem val3_arg1 (V0 : Valuation τ sig (Elt F)) : val3 V0 (Proc.devRef .tc main_arg1) = V0 (Proc.devRef .tc main_arg1) :=
  (keep3 (by decide) _).trans (val2_arg1 V0)

/-- After 3 windows: kept. -/
theorem val3_arg2 (V0 : Valuation τ sig (Elt F)) : val3 V0 (Proc.devRef .tc main_arg2) = V0 (Proc.devRef .tc main_arg2) :=
  (keep3 (by decide) _).trans (val2_arg2 V0)

/-- After 3 windows: kept. -/
theorem val3_arg3 (V0 : Valuation τ sig (Elt F)) : val3 V0 (Proc.devRef .tc main_arg3) = V0 (Proc.devRef .tc main_arg3) :=
  (keep3 (by decide) _).trans (val2_arg3 V0)

/-- After 3 windows: kept. -/
theorem val3_arg4 (V0 : Valuation τ sig (Elt F)) : val3 V0 (Proc.devRef .tc main_arg4) = V0 (Proc.devRef .tc main_arg4) :=
  (keep3 (by decide) _).trans (val2_arg4 V0)

/-- After 3 windows: kept. -/
theorem val3_v10 (V0 : Valuation τ sig (Elt F)) : val3 V0 (Proc.devRef .tc main_v10) = res_v10 (V0 (Proc.devRef .tc main_arg3)) :=
  (keep3 (by decide) _).trans (val2_v10 V0)

/-- After 3 windows: kept. -/
theorem val3_v21 (V0 : Valuation τ sig (Elt F)) : val3 V0 (Proc.devRef .tc main_v21) = res_v21 (V0 (Proc.devRef .tc main_arg2)) :=
  (keep3 (by decide) _).trans (val2_v21 V0)

/-- After 3 windows: the two extents of each overlap, cut off at zero. -/
theorem val3_v37 (V0 : Valuation τ sig (Elt F)) : val3 V0 (Proc.devRef .tc main_v37) = res_v37 (V0 (Proc.devRef .tc main_arg2)) (V0 (Proc.devRef .tc main_arg3)) :=
  (win_v37 _).trans (by rw [val2_arg2, val2_arg3]; rfl)

/-- The contents after 4 windows. -/
def val4 (V0 : Valuation τ sig (Elt F)) : Valuation τ sig (Elt F) := after ops4 (val3 V0)

/-- After 4 windows: kept. -/
theorem val4_arg0 (V0 : Valuation τ sig (Elt F)) : val4 V0 (Proc.devRef .tc main_arg0) = V0 (Proc.devRef .tc main_arg0) :=
  (keep4 (by decide) _).trans (val3_arg0 V0)

/-- After 4 windows: kept. -/
theorem val4_arg1 (V0 : Valuation τ sig (Elt F)) : val4 V0 (Proc.devRef .tc main_arg1) = V0 (Proc.devRef .tc main_arg1) :=
  (keep4 (by decide) _).trans (val3_arg1 V0)

/-- After 4 windows: kept. -/
theorem val4_arg2 (V0 : Valuation τ sig (Elt F)) : val4 V0 (Proc.devRef .tc main_arg2) = V0 (Proc.devRef .tc main_arg2) :=
  (keep4 (by decide) _).trans (val3_arg2 V0)

/-- After 4 windows: kept. -/
theorem val4_arg3 (V0 : Valuation τ sig (Elt F)) : val4 V0 (Proc.devRef .tc main_arg3) = V0 (Proc.devRef .tc main_arg3) :=
  (keep4 (by decide) _).trans (val3_arg3 V0)

/-- After 4 windows: kept. -/
theorem val4_arg4 (V0 : Valuation τ sig (Elt F)) : val4 V0 (Proc.devRef .tc main_arg4) = V0 (Proc.devRef .tc main_arg4) :=
  (keep4 (by decide) _).trans (val3_arg4 V0)

/-- After 4 windows: the IoU of every target with every anchor. -/
theorem val4_v51 (V0 : Valuation τ sig (Elt F)) : val4 V0 (Proc.devRef .tc main_v51) = res_v51 (V0 (Proc.devRef .tc main_arg2)) (V0 (Proc.devRef .tc main_arg3)) :=
  (win_v51 _).trans (by rw [val3_v10, val3_v21, val3_v37]; rfl)

/-- The contents after 5 windows. -/
def val5 (V0 : Valuation τ sig (Elt F)) : Valuation τ sig (Elt F) := after ops5 (val4 V0)

/-- After 5 windows: kept. -/
theorem val5_arg0 (V0 : Valuation τ sig (Elt F)) : val5 V0 (Proc.devRef .tc main_arg0) = V0 (Proc.devRef .tc main_arg0) :=
  (keep5 (by decide) _).trans (val4_arg0 V0)

/-- After 5 windows: kept. -/
theorem val5_arg1 (V0 : Valuation τ sig (Elt F)) : val5 V0 (Proc.devRef .tc main_arg1) = V0 (Proc.devRef .tc main_arg1) :=
  (keep5 (by decide) _).trans (val4_arg1 V0)

/-- After 5 windows: kept. -/
theorem val5_arg2 (V0 : Valuation τ sig (Elt F)) : val5 V0 (Proc.devRef .tc main_arg2) = V0 (Proc.devRef .tc main_arg2) :=
  (keep5 (by decide) _).trans (val4_arg2 V0)

/-- After 5 windows: kept. -/
theorem val5_arg3 (V0 : Valuation τ sig (Elt F)) : val5 V0 (Proc.devRef .tc main_arg3) = V0 (Proc.devRef .tc main_arg3) :=
  (keep5 (by decide) _).trans (val4_arg3 V0)

/-- After 5 windows: kept. -/
theorem val5_arg4 (V0 : Valuation τ sig (Elt F)) : val5 V0 (Proc.devRef .tc main_arg4) = V0 (Proc.devRef .tc main_arg4) :=
  (keep5 (by decide) _).trans (val4_arg4 V0)

/-- After 5 windows: the index of the best target of each anchor. -/
theorem val5_v53 (V0 : Valuation τ sig (Elt F)) : val5 V0 (Proc.devRef .tc main_v53) = res_v53 (V0 (Proc.devRef .tc main_arg2)) (V0 (Proc.devRef .tc main_arg3)) :=
  (win_v53 _).trans (by rw [val4_v51]; rfl)

/-- After 5 windows: which anchors match. -/
theorem val5_v55 (V0 : Valuation τ sig (Elt F)) : val5 V0 (Proc.devRef .tc main_v55) = res_v55 (V0 (Proc.devRef .tc main_arg2)) (V0 (Proc.devRef .tc main_arg3)) :=
  (win_v55 _).trans (by rw [val4_v51]; rfl)

/-- The contents after 6 windows. -/
def val6 (V0 : Valuation τ sig (Elt F)) : Valuation τ sig (Elt F) := after ops6 (val5 V0)

/-- After 6 windows: kept. -/
theorem val6_arg0 (V0 : Valuation τ sig (Elt F)) : val6 V0 (Proc.devRef .tc main_arg0) = V0 (Proc.devRef .tc main_arg0) :=
  (keep6 (by decide) _).trans (val5_arg0 V0)

/-- After 6 windows: kept. -/
theorem val6_arg1 (V0 : Valuation τ sig (Elt F)) : val6 V0 (Proc.devRef .tc main_arg1) = V0 (Proc.devRef .tc main_arg1) :=
  (keep6 (by decide) _).trans (val5_arg1 V0)

/-- After 6 windows: kept. -/
theorem val6_arg2 (V0 : Valuation τ sig (Elt F)) : val6 V0 (Proc.devRef .tc main_arg2) = V0 (Proc.devRef .tc main_arg2) :=
  (keep6 (by decide) _).trans (val5_arg2 V0)

/-- After 6 windows: kept. -/
theorem val6_arg3 (V0 : Valuation τ sig (Elt F)) : val6 V0 (Proc.devRef .tc main_arg3) = V0 (Proc.devRef .tc main_arg3) :=
  (keep6 (by decide) _).trans (val5_arg3 V0)

/-- After 6 windows: kept. -/
theorem val6_arg4 (V0 : Valuation τ sig (Elt F)) : val6 V0 (Proc.devRef .tc main_arg4) = V0 (Proc.devRef .tc main_arg4) :=
  (keep6 (by decide) _).trans (val5_arg4 V0)

/-- After 6 windows: kept. -/
theorem val6_v53 (V0 : Valuation τ sig (Elt F)) : val6 V0 (Proc.devRef .tc main_v53) = res_v53 (V0 (Proc.devRef .tc main_arg2)) (V0 (Proc.devRef .tc main_arg3)) :=
  (keep6 (by decide) _).trans (val5_v53 V0)

/-- After 6 windows: kept. -/
theorem val6_v55 (V0 : Valuation τ sig (Elt F)) : val6 V0 (Proc.devRef .tc main_v55) = res_v55 (V0 (Proc.devRef .tc main_arg2)) (V0 (Proc.devRef .tc main_arg3)) :=
  (keep6 (by decide) _).trans (val5_v55 V0)

/-- After 6 windows: the number of matching anchors. -/
theorem val6_v57 (V0 : Valuation τ sig (Elt F)) : val6 V0 (Proc.devRef .tc main_v57) = res_v57 (V0 (Proc.devRef .tc main_arg2)) (V0 (Proc.devRef .tc main_arg3)) :=
  (win_v57 _).trans (by rw [val5_v55]; rfl)

/-- The contents after 7 windows. -/
def val7 (V0 : Valuation τ sig (Elt F)) : Valuation τ sig (Elt F) := after ops7 (val6 V0)

/-- After 7 windows: kept. -/
theorem val7_arg0 (V0 : Valuation τ sig (Elt F)) : val7 V0 (Proc.devRef .tc main_arg0) = V0 (Proc.devRef .tc main_arg0) :=
  (keep7 (by decide) _).trans (val6_arg0 V0)

/-- After 7 windows: kept. -/
theorem val7_arg1 (V0 : Valuation τ sig (Elt F)) : val7 V0 (Proc.devRef .tc main_arg1) = V0 (Proc.devRef .tc main_arg1) :=
  (keep7 (by decide) _).trans (val6_arg1 V0)

/-- After 7 windows: kept. -/
theorem val7_arg2 (V0 : Valuation τ sig (Elt F)) : val7 V0 (Proc.devRef .tc main_arg2) = V0 (Proc.devRef .tc main_arg2) :=
  (keep7 (by decide) _).trans (val6_arg2 V0)

/-- After 7 windows: kept. -/
theorem val7_arg3 (V0 : Valuation τ sig (Elt F)) : val7 V0 (Proc.devRef .tc main_arg3) = V0 (Proc.devRef .tc main_arg3) :=
  (keep7 (by decide) _).trans (val6_arg3 V0)

/-- After 7 windows: kept. -/
theorem val7_arg4 (V0 : Valuation τ sig (Elt F)) : val7 V0 (Proc.devRef .tc main_arg4) = V0 (Proc.devRef .tc main_arg4) :=
  (keep7 (by decide) _).trans (val6_arg4 V0)

/-- After 7 windows: kept. -/
theorem val7_v53 (V0 : Valuation τ sig (Elt F)) : val7 V0 (Proc.devRef .tc main_v53) = res_v53 (V0 (Proc.devRef .tc main_arg2)) (V0 (Proc.devRef .tc main_arg3)) :=
  (keep7 (by decide) _).trans (val6_v53 V0)

/-- After 7 windows: kept. -/
theorem val7_v55 (V0 : Valuation τ sig (Elt F)) : val7 V0 (Proc.devRef .tc main_v55) = res_v55 (V0 (Proc.devRef .tc main_arg2)) (V0 (Proc.devRef .tc main_arg3)) :=
  (keep7 (by decide) _).trans (val6_v55 V0)

/-- After 7 windows: kept. -/
theorem val7_v57 (V0 : Valuation τ sig (Elt F)) : val7 V0 (Proc.devRef .tc main_v57) = res_v57 (V0 (Proc.devRef .tc main_arg2)) (V0 (Proc.devRef .tc main_arg3)) :=
  (keep7 (by decide) _).trans (val6_v57 V0)

/-- After 7 windows: the one-hot row of the best target's label. -/
theorem val7_v65 (V0 : Valuation τ sig (Elt F)) : val7 V0 (Proc.devRef .tc main_v65) = res_v65 (V0 (Proc.devRef .tc main_arg2)) (V0 (Proc.devRef .tc main_arg3)) (V0 (Proc.devRef .tc main_arg4)) :=
  (win_v65 _).trans (by rw [val6_arg4, val6_v53]; rfl)

/-- The contents after 8 windows. -/
def val8 (V0 : Valuation τ sig (Elt F)) : Valuation τ sig (Elt F) := after ops8 (val7 V0)

/-- After 8 windows: kept. -/
theorem val8_arg0 (V0 : Valuation τ sig (Elt F)) : val8 V0 (Proc.devRef .tc main_arg0) = V0 (Proc.devRef .tc main_arg0) :=
  (keep8 (by decide) _).trans (val7_arg0 V0)

/-- After 8 windows: kept. -/
theorem val8_arg1 (V0 : Valuation τ sig (Elt F)) : val8 V0 (Proc.devRef .tc main_arg1) = V0 (Proc.devRef .tc main_arg1) :=
  (keep8 (by decide) _).trans (val7_arg1 V0)

/-- After 8 windows: kept. -/
theorem val8_arg2 (V0 : Valuation τ sig (Elt F)) : val8 V0 (Proc.devRef .tc main_arg2) = V0 (Proc.devRef .tc main_arg2) :=
  (keep8 (by decide) _).trans (val7_arg2 V0)

/-- After 8 windows: kept. -/
theorem val8_arg3 (V0 : Valuation τ sig (Elt F)) : val8 V0 (Proc.devRef .tc main_arg3) = V0 (Proc.devRef .tc main_arg3) :=
  (keep8 (by decide) _).trans (val7_arg3 V0)

/-- After 8 windows: kept. -/
theorem val8_arg4 (V0 : Valuation τ sig (Elt F)) : val8 V0 (Proc.devRef .tc main_arg4) = V0 (Proc.devRef .tc main_arg4) :=
  (keep8 (by decide) _).trans (val7_arg4 V0)

/-- After 8 windows: kept. -/
theorem val8_v53 (V0 : Valuation τ sig (Elt F)) : val8 V0 (Proc.devRef .tc main_v53) = res_v53 (V0 (Proc.devRef .tc main_arg2)) (V0 (Proc.devRef .tc main_arg3)) :=
  (keep8 (by decide) _).trans (val7_v53 V0)

/-- After 8 windows: kept. -/
theorem val8_v55 (V0 : Valuation τ sig (Elt F)) : val8 V0 (Proc.devRef .tc main_v55) = res_v55 (V0 (Proc.devRef .tc main_arg2)) (V0 (Proc.devRef .tc main_arg3)) :=
  (keep8 (by decide) _).trans (val7_v55 V0)

/-- After 8 windows: kept. -/
theorem val8_v57 (V0 : Valuation τ sig (Elt F)) : val8 V0 (Proc.devRef .tc main_v57) = res_v57 (V0 (Proc.devRef .tc main_arg2)) (V0 (Proc.devRef .tc main_arg3)) :=
  (keep8 (by decide) _).trans (val7_v57 V0)

/-- After 8 windows: the class targets. -/
theorem val8_v67 (V0 : Valuation τ sig (Elt F)) : val8 V0 (Proc.devRef .tc main_v67) = res_v67 (V0 (Proc.devRef .tc main_arg2)) (V0 (Proc.devRef .tc main_arg3)) (V0 (Proc.devRef .tc main_arg4)) :=
  (win_v67 _).trans (by rw [val7_v55, val7_v65]; rfl)

/-- The contents after 9 windows. -/
def val9 (V0 : Valuation τ sig (Elt F)) : Valuation τ sig (Elt F) := after ops9 (val8 V0)

/-- After 9 windows: kept. -/
theorem val9_arg0 (V0 : Valuation τ sig (Elt F)) : val9 V0 (Proc.devRef .tc main_arg0) = V0 (Proc.devRef .tc main_arg0) :=
  (keep9 (by decide) _).trans (val8_arg0 V0)

/-- After 9 windows: kept. -/
theorem val9_arg1 (V0 : Valuation τ sig (Elt F)) : val9 V0 (Proc.devRef .tc main_arg1) = V0 (Proc.devRef .tc main_arg1) :=
  (keep9 (by decide) _).trans (val8_arg1 V0)

/-- After 9 windows: kept. -/
theorem val9_arg2 (V0 : Valuation τ sig (Elt F)) : val9 V0 (Proc.devRef .tc main_arg2) = V0 (Proc.devRef .tc main_arg2) :=
  (keep9 (by decide) _).trans (val8_arg2 V0)

/-- After 9 windows: kept. -/
theorem val9_arg3 (V0 : Valuation τ sig (Elt F)) : val9 V0 (Proc.devRef .tc main_arg3) = V0 (Proc.devRef .tc main_arg3) :=
  (keep9 (by decide) _).trans (val8_arg3 V0)

/-- After 9 windows: kept. -/
theorem val9_arg4 (V0 : Valuation τ sig (Elt F)) : val9 V0 (Proc.devRef .tc main_arg4) = V0 (Proc.devRef .tc main_arg4) :=
  (keep9 (by decide) _).trans (val8_arg4 V0)

/-- After 9 windows: kept. -/
theorem val9_v53 (V0 : Valuation τ sig (Elt F)) : val9 V0 (Proc.devRef .tc main_v53) = res_v53 (V0 (Proc.devRef .tc main_arg2)) (V0 (Proc.devRef .tc main_arg3)) :=
  (keep9 (by decide) _).trans (val8_v53 V0)

/-- After 9 windows: kept. -/
theorem val9_v55 (V0 : Valuation τ sig (Elt F)) : val9 V0 (Proc.devRef .tc main_v55) = res_v55 (V0 (Proc.devRef .tc main_arg2)) (V0 (Proc.devRef .tc main_arg3)) :=
  (keep9 (by decide) _).trans (val8_v55 V0)

/-- After 9 windows: kept. -/
theorem val9_v57 (V0 : Valuation τ sig (Elt F)) : val9 V0 (Proc.devRef .tc main_v57) = res_v57 (V0 (Proc.devRef .tc main_arg2)) (V0 (Proc.devRef .tc main_arg3)) :=
  (keep9 (by decide) _).trans (val8_v57 V0)

/-- After 9 windows: kept. -/
theorem val9_v67 (V0 : Valuation τ sig (Elt F)) : val9 V0 (Proc.devRef .tc main_v67) = res_v67 (V0 (Proc.devRef .tc main_arg2)) (V0 (Proc.devRef .tc main_arg3)) (V0 (Proc.devRef .tc main_arg4)) :=
  (keep9 (by decide) _).trans (val8_v67 V0)

/-- After 9 windows: the cross entropy of each logit. -/
theorem val9_v76 (V0 : Valuation τ sig (Elt F)) : val9 V0 (Proc.devRef .tc main_v76) = res_v76 (V0 (Proc.devRef .tc main_arg0)) (V0 (Proc.devRef .tc main_arg2)) (V0 (Proc.devRef .tc main_arg3)) (V0 (Proc.devRef .tc main_arg4)) :=
  (win_v76 _).trans (by rw [val8_arg0, val8_v67]; rfl)

/-- The contents after 10 windows. -/
def val10 (V0 : Valuation τ sig (Elt F)) : Valuation τ sig (Elt F) := after ops10 (val9 V0)

/-- After 10 windows: kept. -/
theorem val10_arg0 (V0 : Valuation τ sig (Elt F)) : val10 V0 (Proc.devRef .tc main_arg0) = V0 (Proc.devRef .tc main_arg0) :=
  (keep10 (by decide) _).trans (val9_arg0 V0)

/-- After 10 windows: kept. -/
theorem val10_arg1 (V0 : Valuation τ sig (Elt F)) : val10 V0 (Proc.devRef .tc main_arg1) = V0 (Proc.devRef .tc main_arg1) :=
  (keep10 (by decide) _).trans (val9_arg1 V0)

/-- After 10 windows: kept. -/
theorem val10_arg2 (V0 : Valuation τ sig (Elt F)) : val10 V0 (Proc.devRef .tc main_arg2) = V0 (Proc.devRef .tc main_arg2) :=
  (keep10 (by decide) _).trans (val9_arg2 V0)

/-- After 10 windows: kept. -/
theorem val10_arg3 (V0 : Valuation τ sig (Elt F)) : val10 V0 (Proc.devRef .tc main_arg3) = V0 (Proc.devRef .tc main_arg3) :=
  (keep10 (by decide) _).trans (val9_arg3 V0)

/-- After 10 windows: kept. -/
theorem val10_arg4 (V0 : Valuation τ sig (Elt F)) : val10 V0 (Proc.devRef .tc main_arg4) = V0 (Proc.devRef .tc main_arg4) :=
  (keep10 (by decide) _).trans (val9_arg4 V0)

/-- After 10 windows: kept. -/
theorem val10_v53 (V0 : Valuation τ sig (Elt F)) : val10 V0 (Proc.devRef .tc main_v53) = res_v53 (V0 (Proc.devRef .tc main_arg2)) (V0 (Proc.devRef .tc main_arg3)) :=
  (keep10 (by decide) _).trans (val9_v53 V0)

/-- After 10 windows: kept. -/
theorem val10_v55 (V0 : Valuation τ sig (Elt F)) : val10 V0 (Proc.devRef .tc main_v55) = res_v55 (V0 (Proc.devRef .tc main_arg2)) (V0 (Proc.devRef .tc main_arg3)) :=
  (keep10 (by decide) _).trans (val9_v55 V0)

/-- After 10 windows: kept. -/
theorem val10_v57 (V0 : Valuation τ sig (Elt F)) : val10 V0 (Proc.devRef .tc main_v57) = res_v57 (V0 (Proc.devRef .tc main_arg2)) (V0 (Proc.devRef .tc main_arg3)) :=
  (keep10 (by decide) _).trans (val9_v57 V0)

/-- After 10 windows: kept. -/
theorem val10_v67 (V0 : Valuation τ sig (Elt F)) : val10 V0 (Proc.devRef .tc main_v67) = res_v67 (V0 (Proc.devRef .tc main_arg2)) (V0 (Proc.devRef .tc main_arg3)) (V0 (Proc.devRef .tc main_arg4)) :=
  (keep10 (by decide) _).trans (val9_v67 V0)

/-- After 10 windows: kept. -/
theorem val10_v76 (V0 : Valuation τ sig (Elt F)) : val10 V0 (Proc.devRef .tc main_v76) = res_v76 (V0 (Proc.devRef .tc main_arg0)) (V0 (Proc.devRef .tc main_arg2)) (V0 (Proc.devRef .tc main_arg3)) (V0 (Proc.devRef .tc main_arg4)) :=
  (keep10 (by decide) _).trans (val9_v76 V0)

/-- After 10 windows: the probability of each logit. -/
theorem val10_v82 (V0 : Valuation τ sig (Elt F)) : val10 V0 (Proc.devRef .tc main_v82) = res_v82 (V0 (Proc.devRef .tc main_arg0)) :=
  (win_v82 _).trans (by rw [val9_arg0]; rfl)

/-- The contents after 11 windows. -/
def val11 (V0 : Valuation τ sig (Elt F)) : Valuation τ sig (Elt F) := after ops11 (val10 V0)

/-- After 11 windows: kept. -/
theorem val11_arg0 (V0 : Valuation τ sig (Elt F)) : val11 V0 (Proc.devRef .tc main_arg0) = V0 (Proc.devRef .tc main_arg0) :=
  (keep11 (by decide) _).trans (val10_arg0 V0)

/-- After 11 windows: kept. -/
theorem val11_arg1 (V0 : Valuation τ sig (Elt F)) : val11 V0 (Proc.devRef .tc main_arg1) = V0 (Proc.devRef .tc main_arg1) :=
  (keep11 (by decide) _).trans (val10_arg1 V0)

/-- After 11 windows: kept. -/
theorem val11_arg2 (V0 : Valuation τ sig (Elt F)) : val11 V0 (Proc.devRef .tc main_arg2) = V0 (Proc.devRef .tc main_arg2) :=
  (keep11 (by decide) _).trans (val10_arg2 V0)

/-- After 11 windows: kept. -/
theorem val11_arg3 (V0 : Valuation τ sig (Elt F)) : val11 V0 (Proc.devRef .tc main_arg3) = V0 (Proc.devRef .tc main_arg3) :=
  (keep11 (by decide) _).trans (val10_arg3 V0)

/-- After 11 windows: kept. -/
theorem val11_arg4 (V0 : Valuation τ sig (Elt F)) : val11 V0 (Proc.devRef .tc main_arg4) = V0 (Proc.devRef .tc main_arg4) :=
  (keep11 (by decide) _).trans (val10_arg4 V0)

/-- After 11 windows: kept. -/
theorem val11_v53 (V0 : Valuation τ sig (Elt F)) : val11 V0 (Proc.devRef .tc main_v53) = res_v53 (V0 (Proc.devRef .tc main_arg2)) (V0 (Proc.devRef .tc main_arg3)) :=
  (keep11 (by decide) _).trans (val10_v53 V0)

/-- After 11 windows: kept. -/
theorem val11_v55 (V0 : Valuation τ sig (Elt F)) : val11 V0 (Proc.devRef .tc main_v55) = res_v55 (V0 (Proc.devRef .tc main_arg2)) (V0 (Proc.devRef .tc main_arg3)) :=
  (keep11 (by decide) _).trans (val10_v55 V0)

/-- After 11 windows: kept. -/
theorem val11_v57 (V0 : Valuation τ sig (Elt F)) : val11 V0 (Proc.devRef .tc main_v57) = res_v57 (V0 (Proc.devRef .tc main_arg2)) (V0 (Proc.devRef .tc main_arg3)) :=
  (keep11 (by decide) _).trans (val10_v57 V0)

/-- After 11 windows: kept. -/
theorem val11_v67 (V0 : Valuation τ sig (Elt F)) : val11 V0 (Proc.devRef .tc main_v67) = res_v67 (V0 (Proc.devRef .tc main_arg2)) (V0 (Proc.devRef .tc main_arg3)) (V0 (Proc.devRef .tc main_arg4)) :=
  (keep11 (by decide) _).trans (val10_v67 V0)

/-- After 11 windows: kept. -/
theorem val11_v76 (V0 : Valuation τ sig (Elt F)) : val11 V0 (Proc.devRef .tc main_v76) = res_v76 (V0 (Proc.devRef .tc main_arg0)) (V0 (Proc.devRef .tc main_arg2)) (V0 (Proc.devRef .tc main_arg3)) (V0 (Proc.devRef .tc main_arg4)) :=
  (keep11 (by decide) _).trans (val10_v76 V0)

/-- After 11 windows: the probability given to the right answer. -/
theorem val11_v89 (V0 : Valuation τ sig (Elt F)) : val11 V0 (Proc.devRef .tc main_v89) = res_v89 (V0 (Proc.devRef .tc main_arg0)) (V0 (Proc.devRef .tc main_arg2)) (V0 (Proc.devRef .tc main_arg3)) (V0 (Proc.devRef .tc main_arg4)) :=
  (win_v89 _).trans (by rw [val10_v67, val10_v82]; rfl)

/-- The contents after 12 windows. -/
def val12 (V0 : Valuation τ sig (Elt F)) : Valuation τ sig (Elt F) := after ops12 (val11 V0)

/-- After 12 windows: kept. -/
theorem val12_arg0 (V0 : Valuation τ sig (Elt F)) : val12 V0 (Proc.devRef .tc main_arg0) = V0 (Proc.devRef .tc main_arg0) :=
  (keep12 (by decide) _).trans (val11_arg0 V0)

/-- After 12 windows: kept. -/
theorem val12_arg1 (V0 : Valuation τ sig (Elt F)) : val12 V0 (Proc.devRef .tc main_arg1) = V0 (Proc.devRef .tc main_arg1) :=
  (keep12 (by decide) _).trans (val11_arg1 V0)

/-- After 12 windows: kept. -/
theorem val12_arg2 (V0 : Valuation τ sig (Elt F)) : val12 V0 (Proc.devRef .tc main_arg2) = V0 (Proc.devRef .tc main_arg2) :=
  (keep12 (by decide) _).trans (val11_arg2 V0)

/-- After 12 windows: kept. -/
theorem val12_arg3 (V0 : Valuation τ sig (Elt F)) : val12 V0 (Proc.devRef .tc main_arg3) = V0 (Proc.devRef .tc main_arg3) :=
  (keep12 (by decide) _).trans (val11_arg3 V0)

/-- After 12 windows: kept. -/
theorem val12_arg4 (V0 : Valuation τ sig (Elt F)) : val12 V0 (Proc.devRef .tc main_arg4) = V0 (Proc.devRef .tc main_arg4) :=
  (keep12 (by decide) _).trans (val11_arg4 V0)

/-- After 12 windows: kept. -/
theorem val12_v53 (V0 : Valuation τ sig (Elt F)) : val12 V0 (Proc.devRef .tc main_v53) = res_v53 (V0 (Proc.devRef .tc main_arg2)) (V0 (Proc.devRef .tc main_arg3)) :=
  (keep12 (by decide) _).trans (val11_v53 V0)

/-- After 12 windows: kept. -/
theorem val12_v55 (V0 : Valuation τ sig (Elt F)) : val12 V0 (Proc.devRef .tc main_v55) = res_v55 (V0 (Proc.devRef .tc main_arg2)) (V0 (Proc.devRef .tc main_arg3)) :=
  (keep12 (by decide) _).trans (val11_v55 V0)

/-- After 12 windows: kept. -/
theorem val12_v57 (V0 : Valuation τ sig (Elt F)) : val12 V0 (Proc.devRef .tc main_v57) = res_v57 (V0 (Proc.devRef .tc main_arg2)) (V0 (Proc.devRef .tc main_arg3)) :=
  (keep12 (by decide) _).trans (val11_v57 V0)

/-- After 12 windows: kept. -/
theorem val12_v76 (V0 : Valuation τ sig (Elt F)) : val12 V0 (Proc.devRef .tc main_v76) = res_v76 (V0 (Proc.devRef .tc main_arg0)) (V0 (Proc.devRef .tc main_arg2)) (V0 (Proc.devRef .tc main_arg3)) (V0 (Proc.devRef .tc main_arg4)) :=
  (keep12 (by decide) _).trans (val11_v76 V0)

/-- After 12 windows: kept. -/
theorem val12_v89 (V0 : Valuation τ sig (Elt F)) : val12 V0 (Proc.devRef .tc main_v89) = res_v89 (V0 (Proc.devRef .tc main_arg0)) (V0 (Proc.devRef .tc main_arg2)) (V0 (Proc.devRef .tc main_arg3)) (V0 (Proc.devRef .tc main_arg4)) :=
  (keep12 (by decide) _).trans (val11_v89 V0)

/-- After 12 windows: the class weight. -/
theorem val12_v96 (V0 : Valuation τ sig (Elt F)) : val12 V0 (Proc.devRef .tc main_v96) = res_v96 (V0 (Proc.devRef .tc main_arg2)) (V0 (Proc.devRef .tc main_arg3)) (V0 (Proc.devRef .tc main_arg4)) :=
  (win_v96 _).trans (by rw [val11_v67]; rfl)

/-- The contents after 13 windows. -/
def val13 (V0 : Valuation τ sig (Elt F)) : Valuation τ sig (Elt F) := after ops13 (val12 V0)

/-- After 13 windows: kept. -/
theorem val13_arg0 (V0 : Valuation τ sig (Elt F)) : val13 V0 (Proc.devRef .tc main_arg0) = V0 (Proc.devRef .tc main_arg0) :=
  (keep13 (by decide) _).trans (val12_arg0 V0)

/-- After 13 windows: kept. -/
theorem val13_arg1 (V0 : Valuation τ sig (Elt F)) : val13 V0 (Proc.devRef .tc main_arg1) = V0 (Proc.devRef .tc main_arg1) :=
  (keep13 (by decide) _).trans (val12_arg1 V0)

/-- After 13 windows: kept. -/
theorem val13_arg2 (V0 : Valuation τ sig (Elt F)) : val13 V0 (Proc.devRef .tc main_arg2) = V0 (Proc.devRef .tc main_arg2) :=
  (keep13 (by decide) _).trans (val12_arg2 V0)

/-- After 13 windows: kept. -/
theorem val13_arg3 (V0 : Valuation τ sig (Elt F)) : val13 V0 (Proc.devRef .tc main_arg3) = V0 (Proc.devRef .tc main_arg3) :=
  (keep13 (by decide) _).trans (val12_arg3 V0)

/-- After 13 windows: kept. -/
theorem val13_arg4 (V0 : Valuation τ sig (Elt F)) : val13 V0 (Proc.devRef .tc main_arg4) = V0 (Proc.devRef .tc main_arg4) :=
  (keep13 (by decide) _).trans (val12_arg4 V0)

/-- After 13 windows: kept. -/
theorem val13_v53 (V0 : Valuation τ sig (Elt F)) : val13 V0 (Proc.devRef .tc main_v53) = res_v53 (V0 (Proc.devRef .tc main_arg2)) (V0 (Proc.devRef .tc main_arg3)) :=
  (keep13 (by decide) _).trans (val12_v53 V0)

/-- After 13 windows: kept. -/
theorem val13_v55 (V0 : Valuation τ sig (Elt F)) : val13 V0 (Proc.devRef .tc main_v55) = res_v55 (V0 (Proc.devRef .tc main_arg2)) (V0 (Proc.devRef .tc main_arg3)) :=
  (keep13 (by decide) _).trans (val12_v55 V0)

/-- After 13 windows: kept. -/
theorem val13_v57 (V0 : Valuation τ sig (Elt F)) : val13 V0 (Proc.devRef .tc main_v57) = res_v57 (V0 (Proc.devRef .tc main_arg2)) (V0 (Proc.devRef .tc main_arg3)) :=
  (keep13 (by decide) _).trans (val12_v57 V0)

/-- After 13 windows: kept. -/
theorem val13_v76 (V0 : Valuation τ sig (Elt F)) : val13 V0 (Proc.devRef .tc main_v76) = res_v76 (V0 (Proc.devRef .tc main_arg0)) (V0 (Proc.devRef .tc main_arg2)) (V0 (Proc.devRef .tc main_arg3)) (V0 (Proc.devRef .tc main_arg4)) :=
  (keep13 (by decide) _).trans (val12_v76 V0)

/-- After 13 windows: the class weight times the focal factor. -/
theorem val13_v101 (V0 : Valuation τ sig (Elt F)) : val13 V0 (Proc.devRef .tc main_v101) = res_v101 (V0 (Proc.devRef .tc main_arg0)) (V0 (Proc.devRef .tc main_arg2)) (V0 (Proc.devRef .tc main_arg3)) (V0 (Proc.devRef .tc main_arg4)) :=
  (win_v101 _).trans (by rw [val12_v89, val12_v96]; rfl)

/-- The contents after 14 windows. -/
def val14 (V0 : Valuation τ sig (Elt F)) : Valuation τ sig (Elt F) := after ops14 (val13 V0)

/-- After 14 windows: kept. -/
theorem val14_arg0 (V0 : Valuation τ sig (Elt F)) : val14 V0 (Proc.devRef .tc main_arg0) = V0 (Proc.devRef .tc main_arg0) :=
  (keep14 (by decide) _).trans (val13_arg0 V0)

/-- After 14 windows: kept. -/
theorem val14_arg1 (V0 : Valuation τ sig (Elt F)) : val14 V0 (Proc.devRef .tc main_arg1) = V0 (Proc.devRef .tc main_arg1) :=
  (keep14 (by decide) _).trans (val13_arg1 V0)

/-- After 14 windows: kept. -/
theorem val14_arg2 (V0 : Valuation τ sig (Elt F)) : val14 V0 (Proc.devRef .tc main_arg2) = V0 (Proc.devRef .tc main_arg2) :=
  (keep14 (by decide) _).trans (val13_arg2 V0)

/-- After 14 windows: kept. -/
theorem val14_arg3 (V0 : Valuation τ sig (Elt F)) : val14 V0 (Proc.devRef .tc main_arg3) = V0 (Proc.devRef .tc main_arg3) :=
  (keep14 (by decide) _).trans (val13_arg3 V0)

/-- After 14 windows: kept. -/
theorem val14_arg4 (V0 : Valuation τ sig (Elt F)) : val14 V0 (Proc.devRef .tc main_arg4) = V0 (Proc.devRef .tc main_arg4) :=
  (keep14 (by decide) _).trans (val13_arg4 V0)

/-- After 14 windows: kept. -/
theorem val14_v53 (V0 : Valuation τ sig (Elt F)) : val14 V0 (Proc.devRef .tc main_v53) = res_v53 (V0 (Proc.devRef .tc main_arg2)) (V0 (Proc.devRef .tc main_arg3)) :=
  (keep14 (by decide) _).trans (val13_v53 V0)

/-- After 14 windows: kept. -/
theorem val14_v55 (V0 : Valuation τ sig (Elt F)) : val14 V0 (Proc.devRef .tc main_v55) = res_v55 (V0 (Proc.devRef .tc main_arg2)) (V0 (Proc.devRef .tc main_arg3)) :=
  (keep14 (by decide) _).trans (val13_v55 V0)

/-- After 14 windows: kept. -/
theorem val14_v57 (V0 : Valuation τ sig (Elt F)) : val14 V0 (Proc.devRef .tc main_v57) = res_v57 (V0 (Proc.devRef .tc main_arg2)) (V0 (Proc.devRef .tc main_arg3)) :=
  (keep14 (by decide) _).trans (val13_v57 V0)

/-- After 14 windows: the focal loss. -/
theorem val14_v104 (V0 : Valuation τ sig (Elt F)) : val14 V0 (Proc.devRef .tc main_v104) = res_v104 (V0 (Proc.devRef .tc main_arg0)) (V0 (Proc.devRef .tc main_arg2)) (V0 (Proc.devRef .tc main_arg3)) (V0 (Proc.devRef .tc main_arg4)) :=
  (win_v104 _).trans (by rw [val13_v57, val13_v76, val13_v101]; rfl)

/-- The contents after 15 windows. -/
def val15 (V0 : Valuation τ sig (Elt F)) : Valuation τ sig (Elt F) := after ops15 (val14 V0)

/-- After 15 windows: kept. -/
theorem val15_arg0 (V0 : Valuation τ sig (Elt F)) : val15 V0 (Proc.devRef .tc main_arg0) = V0 (Proc.devRef .tc main_arg0) :=
  (keep15 (by decide) _).trans (val14_arg0 V0)

/-- After 15 windows: kept. -/
theorem val15_arg1 (V0 : Valuation τ sig (Elt F)) : val15 V0 (Proc.devRef .tc main_arg1) = V0 (Proc.devRef .tc main_arg1) :=
  (keep15 (by decide) _).trans (val14_arg1 V0)

/-- After 15 windows: kept. -/
theorem val15_arg2 (V0 : Valuation τ sig (Elt F)) : val15 V0 (Proc.devRef .tc main_arg2) = V0 (Proc.devRef .tc main_arg2) :=
  (keep15 (by decide) _).trans (val14_arg2 V0)

/-- After 15 windows: kept. -/
theorem val15_arg3 (V0 : Valuation τ sig (Elt F)) : val15 V0 (Proc.devRef .tc main_arg3) = V0 (Proc.devRef .tc main_arg3) :=
  (keep15 (by decide) _).trans (val14_arg3 V0)

/-- After 15 windows: kept. -/
theorem val15_arg4 (V0 : Valuation τ sig (Elt F)) : val15 V0 (Proc.devRef .tc main_arg4) = V0 (Proc.devRef .tc main_arg4) :=
  (keep15 (by decide) _).trans (val14_arg4 V0)

/-- After 15 windows: kept. -/
theorem val15_v55 (V0 : Valuation τ sig (Elt F)) : val15 V0 (Proc.devRef .tc main_v55) = res_v55 (V0 (Proc.devRef .tc main_arg2)) (V0 (Proc.devRef .tc main_arg3)) :=
  (keep15 (by decide) _).trans (val14_v55 V0)

/-- After 15 windows: kept. -/
theorem val15_v57 (V0 : Valuation τ sig (Elt F)) : val15 V0 (Proc.devRef .tc main_v57) = res_v57 (V0 (Proc.devRef .tc main_arg2)) (V0 (Proc.devRef .tc main_arg3)) :=
  (keep15 (by decide) _).trans (val14_v57 V0)

/-- After 15 windows: kept. -/
theorem val15_v104 (V0 : Valuation τ sig (Elt F)) : val15 V0 (Proc.devRef .tc main_v104) = res_v104 (V0 (Proc.devRef .tc main_arg0)) (V0 (Proc.devRef .tc main_arg2)) (V0 (Proc.devRef .tc main_arg3)) (V0 (Proc.devRef .tc main_arg4)) :=
  (keep15 (by decide) _).trans (val14_v104 V0)

/-- After 15 windows: the box of the best target of each anchor. -/
theorem val15_v111 (V0 : Valuation τ sig (Elt F)) : val15 V0 (Proc.devRef .tc main_v111) = res_v111 (V0 (Proc.devRef .tc main_arg2)) (V0 (Proc.devRef .tc main_arg3)) :=
  (win_v111 _).trans (by rw [val14_arg3, val14_v53]; rfl)

/-- The contents after 16 windows. -/
def val16 (V0 : Valuation τ sig (Elt F)) : Valuation τ sig (Elt F) := after ops16 (val15 V0)

/-- After 16 windows: kept. -/
theorem val16_arg0 (V0 : Valuation τ sig (Elt F)) : val16 V0 (Proc.devRef .tc main_arg0) = V0 (Proc.devRef .tc main_arg0) :=
  (keep16 (by decide) _).trans (val15_arg0 V0)

/-- After 16 windows: kept. -/
theorem val16_arg1 (V0 : Valuation τ sig (Elt F)) : val16 V0 (Proc.devRef .tc main_arg1) = V0 (Proc.devRef .tc main_arg1) :=
  (keep16 (by decide) _).trans (val15_arg1 V0)

/-- After 16 windows: kept. -/
theorem val16_arg2 (V0 : Valuation τ sig (Elt F)) : val16 V0 (Proc.devRef .tc main_arg2) = V0 (Proc.devRef .tc main_arg2) :=
  (keep16 (by decide) _).trans (val15_arg2 V0)

/-- After 16 windows: kept. -/
theorem val16_arg3 (V0 : Valuation τ sig (Elt F)) : val16 V0 (Proc.devRef .tc main_arg3) = V0 (Proc.devRef .tc main_arg3) :=
  (keep16 (by decide) _).trans (val15_arg3 V0)

/-- After 16 windows: kept. -/
theorem val16_arg4 (V0 : Valuation τ sig (Elt F)) : val16 V0 (Proc.devRef .tc main_arg4) = V0 (Proc.devRef .tc main_arg4) :=
  (keep16 (by decide) _).trans (val15_arg4 V0)

/-- After 16 windows: kept. -/
theorem val16_v55 (V0 : Valuation τ sig (Elt F)) : val16 V0 (Proc.devRef .tc main_v55) = res_v55 (V0 (Proc.devRef .tc main_arg2)) (V0 (Proc.devRef .tc main_arg3)) :=
  (keep16 (by decide) _).trans (val15_v55 V0)

/-- After 16 windows: kept. -/
theorem val16_v57 (V0 : Valuation τ sig (Elt F)) : val16 V0 (Proc.devRef .tc main_v57) = res_v57 (V0 (Proc.devRef .tc main_arg2)) (V0 (Proc.devRef .tc main_arg3)) :=
  (keep16 (by decide) _).trans (val15_v57 V0)

/-- After 16 windows: kept. -/
theorem val16_v104 (V0 : Valuation τ sig (Elt F)) : val16 V0 (Proc.devRef .tc main_v104) = res_v104 (V0 (Proc.devRef .tc main_arg0)) (V0 (Proc.devRef .tc main_arg2)) (V0 (Proc.devRef .tc main_arg3)) (V0 (Proc.devRef .tc main_arg4)) :=
  (keep16 (by decide) _).trans (val15_v104 V0)

/-- After 16 windows: the extents of the matched box. -/
theorem val16_v119 (V0 : Valuation τ sig (Elt F)) : val16 V0 (Proc.devRef .tc main_v119) = res_v119 (V0 (Proc.devRef .tc main_arg2)) (V0 (Proc.devRef .tc main_arg3)) :=
  (win_v119 _).trans (by rw [val15_v111]; rfl)

/-- After 16 windows: the extents of each anchor. -/
theorem val16_v127 (V0 : Valuation τ sig (Elt F)) : val16 V0 (Proc.devRef .tc main_v127) = res_v127 (V0 (Proc.devRef .tc main_arg2)) :=
  (win_v127 _).trans (by rw [val15_arg2]; rfl)

/-- After 16 windows: the encoded centre offsets. -/
theorem val16_v131 (V0 : Valuation τ sig (Elt F)) : val16 V0 (Proc.devRef .tc main_v131) = res_v131 (V0 (Proc.devRef .tc main_arg2)) (V0 (Proc.devRef .tc main_arg3)) :=
  (win_v131 _).trans (by rw [val15_arg2, val15_v111]; rfl)

/-- The contents after 17 windows. -/
def val17 (V0 : Valuation τ sig (Elt F)) : Valuation τ sig (Elt F) := after ops17 (val16 V0)

/-- After 17 windows: kept. -/
theorem val17_arg0 (V0 : Valuation τ sig (Elt F)) : val17 V0 (Proc.devRef .tc main_arg0) = V0 (Proc.devRef .tc main_arg0) :=
  (keep17 (by decide) _).trans (val16_arg0 V0)

/-- After 17 windows: kept. -/
theorem val17_arg1 (V0 : Valuation τ sig (Elt F)) : val17 V0 (Proc.devRef .tc main_arg1) = V0 (Proc.devRef .tc main_arg1) :=
  (keep17 (by decide) _).trans (val16_arg1 V0)

/-- After 17 windows: kept. -/
theorem val17_arg2 (V0 : Valuation τ sig (Elt F)) : val17 V0 (Proc.devRef .tc main_arg2) = V0 (Proc.devRef .tc main_arg2) :=
  (keep17 (by decide) _).trans (val16_arg2 V0)

/-- After 17 windows: kept. -/
theorem val17_arg3 (V0 : Valuation τ sig (Elt F)) : val17 V0 (Proc.devRef .tc main_arg3) = V0 (Proc.devRef .tc main_arg3) :=
  (keep17 (by decide) _).trans (val16_arg3 V0)

/-- After 17 windows: kept. -/
theorem val17_arg4 (V0 : Valuation τ sig (Elt F)) : val17 V0 (Proc.devRef .tc main_arg4) = V0 (Proc.devRef .tc main_arg4) :=
  (keep17 (by decide) _).trans (val16_arg4 V0)

/-- After 17 windows: kept. -/
theorem val17_v55 (V0 : Valuation τ sig (Elt F)) : val17 V0 (Proc.devRef .tc main_v55) = res_v55 (V0 (Proc.devRef .tc main_arg2)) (V0 (Proc.devRef .tc main_arg3)) :=
  (keep17 (by decide) _).trans (val16_v55 V0)

/-- After 17 windows: kept. -/
theorem val17_v57 (V0 : Valuation τ sig (Elt F)) : val17 V0 (Proc.devRef .tc main_v57) = res_v57 (V0 (Proc.devRef .tc main_arg2)) (V0 (Proc.devRef .tc main_arg3)) :=
  (keep17 (by decide) _).trans (val16_v57 V0)

/-- After 17 windows: kept. -/
theorem val17_v104 (V0 : Valuation τ sig (Elt F)) : val17 V0 (Proc.devRef .tc main_v104) = res_v104 (V0 (Proc.devRef .tc main_arg0)) (V0 (Proc.devRef .tc main_arg2)) (V0 (Proc.devRef .tc main_arg3)) (V0 (Proc.devRef .tc main_arg4)) :=
  (keep17 (by decide) _).trans (val16_v104 V0)

/-- After 17 windows: the encoded box of each anchor. -/
theorem val17_v138 (V0 : Valuation τ sig (Elt F)) : val17 V0 (Proc.devRef .tc main_v138) = res_v138 (V0 (Proc.devRef .tc main_arg2)) (V0 (Proc.devRef .tc main_arg3)) :=
  (win_v138 _).trans (by rw [val16_v119, val16_v127, val16_v131]; rfl)

/-- The contents after 18 windows. -/
def val18 (V0 : Valuation τ sig (Elt F)) : Valuation τ sig (Elt F) := after ops18 (val17 V0)

/-- After 18 windows: kept. -/
theorem val18_arg0 (V0 : Valuation τ sig (Elt F)) : val18 V0 (Proc.devRef .tc main_arg0) = V0 (Proc.devRef .tc main_arg0) :=
  (keep18 (by decide) _).trans (val17_arg0 V0)

/-- After 18 windows: kept. -/
theorem val18_arg1 (V0 : Valuation τ sig (Elt F)) : val18 V0 (Proc.devRef .tc main_arg1) = V0 (Proc.devRef .tc main_arg1) :=
  (keep18 (by decide) _).trans (val17_arg1 V0)

/-- After 18 windows: kept. -/
theorem val18_arg2 (V0 : Valuation τ sig (Elt F)) : val18 V0 (Proc.devRef .tc main_arg2) = V0 (Proc.devRef .tc main_arg2) :=
  (keep18 (by decide) _).trans (val17_arg2 V0)

/-- After 18 windows: kept. -/
theorem val18_arg3 (V0 : Valuation τ sig (Elt F)) : val18 V0 (Proc.devRef .tc main_arg3) = V0 (Proc.devRef .tc main_arg3) :=
  (keep18 (by decide) _).trans (val17_arg3 V0)

/-- After 18 windows: kept. -/
theorem val18_arg4 (V0 : Valuation τ sig (Elt F)) : val18 V0 (Proc.devRef .tc main_arg4) = V0 (Proc.devRef .tc main_arg4) :=
  (keep18 (by decide) _).trans (val17_arg4 V0)

/-- After 18 windows: kept. -/
theorem val18_v57 (V0 : Valuation τ sig (Elt F)) : val18 V0 (Proc.devRef .tc main_v57) = res_v57 (V0 (Proc.devRef .tc main_arg2)) (V0 (Proc.devRef .tc main_arg3)) :=
  (keep18 (by decide) _).trans (val17_v57 V0)

/-- After 18 windows: kept. -/
theorem val18_v104 (V0 : Valuation τ sig (Elt F)) : val18 V0 (Proc.devRef .tc main_v104) = res_v104 (V0 (Proc.devRef .tc main_arg0)) (V0 (Proc.devRef .tc main_arg2)) (V0 (Proc.devRef .tc main_arg3)) (V0 (Proc.devRef .tc main_arg4)) :=
  (keep18 (by decide) _).trans (val17_v104 V0)

/-- After 18 windows: the smooth L1 loss of each coordinate. -/
theorem val18_v148 (V0 : Valuation τ sig (Elt F)) : val18 V0 (Proc.devRef .tc main_v148) = res_v148 (V0 (Proc.devRef .tc main_arg1)) (V0 (Proc.devRef .tc main_arg2)) (V0 (Proc.devRef .tc main_arg3)) :=
  (win_v148 _).trans (by rw [val17_arg1, val17_v138]; rfl)

/-- After 18 windows: the matches as a column. -/
theorem val18_v149 (V0 : Valuation τ sig (Elt F)) : val18 V0 (Proc.devRef .tc main_v149) = res_v149 (V0 (Proc.devRef .tc main_arg2)) (V0 (Proc.devRef .tc main_arg3)) :=
  (win_v149 _).trans (by rw [val17_v55]; rfl)

/-- The contents after 19 windows. -/
def val19 (V0 : Valuation τ sig (Elt F)) : Valuation τ sig (Elt F) := after ops19 (val18 V0)

/-- After 19 windows: kept. -/
theorem val19_arg0 (V0 : Valuation τ sig (Elt F)) : val19 V0 (Proc.devRef .tc main_arg0) = V0 (Proc.devRef .tc main_arg0) :=
  (keep19 (by decide) _).trans (val18_arg0 V0)

/-- After 19 windows: kept. -/
theorem val19_arg1 (V0 : Valuation τ sig (Elt F)) : val19 V0 (Proc.devRef .tc main_arg1) = V0 (Proc.devRef .tc main_arg1) :=
  (keep19 (by decide) _).trans (val18_arg1 V0)

/-- After 19 windows: kept. -/
theorem val19_arg2 (V0 : Valuation τ sig (Elt F)) : val19 V0 (Proc.devRef .tc main_arg2) = V0 (Proc.devRef .tc main_arg2) :=
  (keep19 (by decide) _).trans (val18_arg2 V0)

/-- After 19 windows: kept. -/
theorem val19_arg3 (V0 : Valuation τ sig (Elt F)) : val19 V0 (Proc.devRef .tc main_arg3) = V0 (Proc.devRef .tc main_arg3) :=
  (keep19 (by decide) _).trans (val18_arg3 V0)

/-- After 19 windows: kept. -/
theorem val19_arg4 (V0 : Valuation τ sig (Elt F)) : val19 V0 (Proc.devRef .tc main_arg4) = V0 (Proc.devRef .tc main_arg4) :=
  (keep19 (by decide) _).trans (val18_arg4 V0)

/-- After 19 windows: the class loss returned. -/
theorem val19_v156 (V0 : Valuation τ sig (Elt F)) : val19 V0 (Proc.devRef .tc main_v156) = res_v156 (V0 (Proc.devRef .tc main_arg0)) (V0 (Proc.devRef .tc main_arg2)) (V0 (Proc.devRef .tc main_arg3)) (V0 (Proc.devRef .tc main_arg4)) :=
  (win_v156 _).trans (by rw [val18_v104]; rfl)

/-- After 19 windows: the box loss returned. -/
theorem val19_v157 (V0 : Valuation τ sig (Elt F)) : val19 V0 (Proc.devRef .tc main_v157) = res_v157 (V0 (Proc.devRef .tc main_arg1)) (V0 (Proc.devRef .tc main_arg2)) (V0 (Proc.devRef .tc main_arg3)) :=
  (win_v157 _).trans (by rw [val18_v57, val18_v148, val18_v149]; rfl)

/-- After 19 windows: the sum of both losses. -/
theorem val19_v158 (V0 : Valuation τ sig (Elt F)) : val19 V0 (Proc.devRef .tc main_v158) = res_v158 (V0 (Proc.devRef .tc main_arg0)) (V0 (Proc.devRef .tc main_arg1)) (V0 (Proc.devRef .tc main_arg2)) (V0 (Proc.devRef .tc main_arg3)) (V0 (Proc.devRef .tc main_arg4)) :=
  (win_v158 _).trans (by rw [val18_v57, val18_v104, val18_v148, val18_v149]; rfl)

/-- The windows one after another are the whole program. -/
theorem after_all (V0 : Valuation τ sig (Elt F)) : after allOps V0 = val19 V0 := by
  simp only [allOps, partOps0, partOps1, partOps2, partOps3, after_append]; rfl

/-- The run of the reference: every execution ends with the three losses at their arrays over the arguments, the
    arguments as they were, and every counter at zero. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v158) = res_v158 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v156) = res_v156 (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v157) = res_v157 (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := F)) _ _).mono (fun _ h c => ⟨(h c main_v158).trans ((congrFun (after_all (launchContents m c)) (Proc.devRef .tc main_v158)).trans (val19_v158 (launchContents m c))),
    (h c main_v156).trans ((congrFun (after_all (launchContents m c)) (Proc.devRef .tc main_v156)).trans (val19_v156 (launchContents m c))),
    (h c main_v157).trans ((congrFun (after_all (launchContents m c)) (Proc.devRef .tc main_v157)).trans (val19_v157 (launchContents m c))),
    (h c main_arg0).trans ((congrFun (after_all (launchContents m c)) (Proc.devRef .tc main_arg0)).trans (val19_arg0 (launchContents m c))),
    (h c main_arg1).trans ((congrFun (after_all (launchContents m c)) (Proc.devRef .tc main_arg1)).trans (val19_arg1 (launchContents m c))),
    (h c main_arg2).trans ((congrFun (after_all (launchContents m c)) (Proc.devRef .tc main_arg2)).trans (val19_arg2 (launchContents m c))),
    (h c main_arg3).trans ((congrFun (after_all (launchContents m c)) (Proc.devRef .tc main_arg3)).trans (val19_arg3 (launchContents m c))),
    (h c main_arg4).trans ((congrFun (after_all (launchContents m c)) (Proc.devRef .tc main_arg4)).trans (val19_arg4 (launchContents m c)))⟩)
    (run_seq no_scoped_refs no_scoped_sems (defs (F := F)) main (fun _ => allOps) main_eq (fun _ => all_sub) m ρ
      fun _ => List.forall_iff_forall_mem.mp all_fresh)

/-- The reference has no semaphore, so its counters are zero. -/
theorem sem_zero (s : MemSt nD τ sig (Elt F)) : s.sem = fun _ => 0 := sem_eq_zero_of_no_sems (by decide) s

end Cert.ReferenceIdeal.Steps
-- ==== Proof.Spec.lean ====
module

public import Idealize.ShloMosaic.Lib.Pointwise

@[expose] public section

/-!
The mathematics of one anchor, over the extended reals: the IoU with each target, the best of them, the focal
loss of a logit, the encoding of a box and the smooth L1 loss; and the laws by which the kernel's way of
computing them agrees with the reference's.
-/

set_option maxRecDepth 16384

noncomputable section

open Idealize.ShloMosaic

namespace Cert.Match

/-- A box: its four coordinates. -/
abbrev Box := Fin 4 → EReal

/-- The small number that keeps the IoU's divisor from zero. -/
def cEps : EReal := Ideal.ofBits .f32 0x322BCC77#32
/-- One half: the threshold, and the factor of a centre. -/
def cHalf : EReal := Ideal.ofBits .f32 0x3F000000#32
/-- Two: more than any IoU below the threshold. -/
def cTwo : EReal := Ideal.ofBits .f32 0x40000000#32
/-- The weight of a class that is there. -/
def cA : EReal := Ideal.ofBits .f32 0x3E800000#32
/-- The weight of a class that is not there. -/
def cB : EReal := Ideal.ofBits .f32 0x3F400000#32
/-- The variance of the centre. -/
def cV0 : EReal := Ideal.ofBits .f32 0x3DCCCCCD#32
/-- The variance of the extents. -/
def cV1 : EReal := Ideal.ofBits .f32 0x3E4CCCCD#32
/-- The least extent. -/
def cMin : EReal := Ideal.ofBits .f32 0x358637BD#32

/-- The pattern of one half is one half. -/
theorem cHalf_eq : cHalf = ((1 / 2 : ℝ) : EReal) := by
  unfold cHalf; simp [Ideal.ofBits, Ideal.ieee, -EReal.coe_mul]; norm_num
/-- The pattern of two is two. -/
theorem cTwo_eq : cTwo = ((2 : ℝ) : EReal) := by
  unfold cTwo; simp [Ideal.ofBits, Ideal.ieee, -EReal.coe_mul]; norm_num
/-- One half is less than two. -/
theorem cHalf_lt_cTwo : cHalf < cTwo := by
  rw [cHalf_eq, cTwo_eq, EReal.coe_lt_coe_iff]; norm_num
/-- One half is above the least value. -/
theorem bot_lt_cHalf : ⊥ < cHalf := by rw [cHalf_eq]; exact EReal.bot_lt_coe _

/-- The overlap of two boxes. -/
def inter (t a : Box) : EReal :=
  max 0 (min (t 2) (a 2) - max (t 0) (a 0)) * max 0 (min (t 3) (a 3) - max (t 1) (a 1))
/-- The area of a box. -/
def area (b : Box) : EReal := (b 2 - b 0) * (b 3 - b 1)
/-- The IoU of two boxes. -/
def iou (t a : Box) : EReal := Ideal.div (inter t a) (area t + area a - inter t a + cEps)

/-- The small number added to the target's area first gives the same IoU. -/
theorem iou_eps_first (t a : Box) :
    Ideal.div (inter t a) (area t + cEps + area a - inter t a) = iou t a := by
  unfold iou; congr 1; simp only [sub_eq_add_neg]; ac_rfl

/-- The best IoU of an anchor. -/
def best (T : Fin 256 → Box) (a : Box) : EReal := Finset.univ.fold max ⊥ fun t => iou (T t) a

/-- No target's IoU is above the best. -/
theorem iou_le_best (T : Fin 256 → Box) (a : Box) (t : Fin 256) : iou (T t) a ≤ best T a :=
  Finset.le_fold_max _ |>.mpr (.inr ⟨t, Finset.mem_univ t, le_rfl⟩)

/-- An anchor matches when its best IoU reaches the threshold. -/
def Pos (T : Fin 256 → Box) (a : Box) : Prop := cHalf ≤ best T a
instance (T : Fin 256 → Box) (a : Box) : Decidable (Pos T a) := Classical.dec _

/-- One or zero. -/
def ind (p : Prop) [Decidable p] : EReal := if p then 1 else 0

/-- No tie decides a match: the anchor does not match, or one target alone has the best IoU. -/
def OneBest (T : Fin 256 → Box) (a : Box) : Prop :=
  best T a < cHalf ∨ ∃ t, iou (T t) a = best T a ∧ ∀ s, iou (T s) a = best T a → s = t

/-- The kernel's mark of a target: its IoU is the anchor's best, if the anchor matches. -/
def mark (T : Fin 256 → Box) (a : Box) (t : Fin 256) : EReal :=
  ind (iou (T t) a = if Pos T a then best T a else cTwo)

/-- An anchor that does not match marks no target. -/
theorem mark_of_not_pos {T : Fin 256 → Box} {a : Box} (h : ¬ Pos T a) (t : Fin 256) : mark T a t = 0 := by
  have h1 : iou (T t) a ≠ cTwo := ne_of_lt
    (lt_of_le_of_lt (iou_le_best T a t) (lt_trans (not_le.mp h) cHalf_lt_cTwo))
  simp [mark, ind, h, h1]

/-- A matching anchor with one best target marks that target alone. -/
theorem mark_of_pos {T : Fin 256 → Box} {a : Box} (h : Pos T a) {t : Fin 256} (ht : iou (T t) a = best T a)
    (hu : ∀ s, iou (T s) a = best T a → s = t) (s : Fin 256) : mark T a s = if s = t then 1 else 0 := by
  simp only [mark, ind, h, if_true]
  by_cases hs : s = t
  · subst hs; simp [ht]
  · have h1 : ¬ iou (T s) a = best T a := fun e => hs (hu s e)
    simp [hs, h1]

/-- Summing a column against the marks of a matching anchor reads the column at the best target. -/
theorem sum_mark_of_pos {T : Fin 256 → Box} {a : Box} (h : Pos T a) {t : Fin 256} (ht : iou (T t) a = best T a)
    (hu : ∀ s, iou (T s) a = best T a → s = t) (f : Fin 256 → EReal) : ∑ s, f s * mark T a s = f t := by
  rw [Finset.sum_eq_single t]
  · rw [mark_of_pos h ht hu]; simp
  · intro s _ hs; rw [mark_of_pos h ht hu]; simp [hs]
  · intro h; exact absurd (Finset.mem_univ t) h

/-- Summing a column against the marks of an anchor that does not match gives zero. -/
theorem sum_mark_of_not_pos {T : Fin 256 → Box} {a : Box} (h : ¬ Pos T a) (f : Fin 256 → EReal) :
    ∑ s, f s * mark T a s = 0 := by
  simp [mark_of_not_pos h]

/-! ## The focal loss -/

/-- The probability of a logit. -/
def sig (x : EReal) : EReal := Ideal.logistic x
/-- The probability given to the right answer. -/
def pt (x y : EReal) : EReal := sig x * y + (1 - sig x) * (1 - y)
/-- The class weight. -/
def aw (y : EReal) : EReal := cA * y + cB * (1 - y)
/-- The cross entropy of a logit with a target. -/
def ce (x y : EReal) : EReal := max x 0 - x * y + Ideal.log1p (Ideal.exp (-(max x (-x))))
/-- The focal loss of a logit with a target. -/
def focal (x y : EReal) : EReal := aw y * (1 - pt x y) * (1 - pt x y) * ce x y

/-- A probability is a real number. -/
theorem sig_real (x : EReal) : ∃ r : ℝ, sig x = (r : EReal) := by
  induction x using EReal.rec with
  | bot => exact ⟨0, by simp [sig]⟩
  | top => exact ⟨1, by simp [sig]⟩
  | coe x => exact ⟨_, Ideal.logistic_coe x⟩

/-- The square as a power: at a real number the power with exponent two is the product with itself. -/
theorem pow_two_real (r : ℝ) : Ideal.pow (r : EReal) cTwo = (r : EReal) * (r : EReal) := by
  rw [cTwo_eq, Ideal.pow_coe_coe, Real.rpow_eq_pow, Real.rpow_two, pow_two, EReal.coe_mul]

/-- The focal factor with a target of zero or one is a square. -/
theorem pow_focal (x y : EReal) (hy : y = 0 ∨ y = 1) :
    Ideal.pow (1 - pt x y) cTwo = (1 - pt x y) * (1 - pt x y) := by
  obtain ⟨r, hr⟩ := sig_real x
  have h : ∃ q : ℝ, 1 - pt x y = (q : EReal) := by
    unfold pt; rw [hr]
    rcases hy with rfl | rfl
    · exact ⟨1 - (r * 0 + (1 - r) * (1 - 0)), by push_cast; rfl⟩
    · exact ⟨1 - (r * 1 + (1 - r) * (1 - 1)), by push_cast; rfl⟩
  obtain ⟨q, hq⟩ := h
  rw [hq]; exact pow_two_real q

/-- The reference's focal loss is the kernel's. -/
theorem focal_pow (x y : EReal) (hy : y = 0 ∨ y = 1) :
    aw y * Ideal.pow (1 - pt x y) cTwo * ce x y = focal x y := by
  rw [pow_focal x y hy, focal, ← mul_assoc]

/-! ## The box loss -/

/-- The encoding of a box against an anchor. -/
def enc (g a : Box) : Fin 4 → EReal :=
  ![Ideal.div ((g 0 + g 2) * cHalf - (a 0 + a 2) * cHalf) ((a 2 - a 0) * cV0),
    Ideal.div ((g 1 + g 3) * cHalf - (a 1 + a 3) * cHalf) ((a 3 - a 1) * cV0),
    Ideal.div (Ideal.log (Ideal.div (max cMin (g 2 - g 0)) (max cMin (a 2 - a 0)))) cV1,
    Ideal.div (Ideal.log (Ideal.div (max cMin (g 3 - g 1)) (max cMin (a 3 - a 1)))) cV1]

/-- The smooth L1 loss of a difference. -/
def sl1 (d : EReal) : EReal :=
  if max d (-d) < 1 then cHalf * max d (-d) * max d (-d) else max d (-d) - cHalf

/-- The box loss of one coordinate of an anchor. -/
def boxLoss (b g a : Box) (p : EReal) (k : Fin 4) : EReal := sl1 (b k - enc g a k) * p

end Cert.Match
-- ==== Proof.KerRead.lean ====
module

public import proofs.«01_k».proof.Proof.Gen.KernelIdeal.Frame
public import proofs.«01_k».proof.Proof.Spec
public import Idealize.ShloMosaic.Lib.Pointwise

@[expose] public section

/-!
The kernel's block, read at an index: each array the body binds, as the scalar mathematics of one anchor.
-/

set_option maxRecDepth 16384
noncomputable section

open Idealize.ShloMosaic Idealize.ShloMosaic.TcCoe Idealize.SL.Sem
namespace Cert.KernelIdeal.Block
open Cert.KernelIdeal Cert.KernelIdeal.Gen Cert.Match

variable (x0 : Vec Ideal S256x4 .f32) (x1 : Vec Ideal S4x256 .f32) (x2 : Vec Ideal S1x256 .i32)
  (x3 : Vec Ideal S4x16384 .f32) (x4 : Vec Ideal S21x16384 .f32) (x5 : Vec Ideal S4x16384 .f32)

/-- The target boxes of a block. -/
def tg (t : Fin 256) : Box := fun k => x0 (ix2 t k)
/-- An anchor of a block. -/
def an (l : Fin 16384) : Box := fun k => x3 (ix2 k l)

/-- The IoU array. -/
theorem iou_at (t : Fin 256) (l : Fin 16384) :
    k0_pay7 x0 x3 (ix2 t l : S256x16384.Idx) = iou (tg x0 t) (an x3 l) := by
  rw [← iou_eps_first]
  pointwise [k0_pay7, k0_pay2, k0_pay3, k0_pay4, k0_pay5, k0_pay6]
  rfl

/-- The best IoU of each anchor. -/
theorem best_at (l : Fin 16384) :
    k0_pay8 x0 x3 (ix2 (0 : Fin 1) l : S1x16384.Idx) = best (tg x0) (an x3 l) := by
  pointwise [k0_pay8]
  simp only [iou_at]
  rw [best]
  congr 1

/-- The mark of a match, over any array of best IoUs. -/
theorem ge_at (v : FVec Ideal S1x16384 .f32) (l : Fin 16384) (w : FVec Ideal S1x16384 .f32) (p : EReal) (hp : v (ix2 (0 : Fin 1) l) = p)
    (hw : w (ix2 (0 : Fin 1) l) = cHalf) :
    cmpf .oge v w (ix2 (0 : Fin 1) l : S1x16384.Idx) = BitVec.ofBool (decide (cHalf ≤ p)) := by
  subst hp; rw [← hw]; rfl

/-- Which anchors match. -/
theorem pos_at (l : Fin 16384) :
    k0_pay9 x0 x3 (ix2 (0 : Fin 1) l : S1x16384.Idx) = BitVec.ofBool (decide (cHalf ≤ best (tg x0) (an x3 l))) :=
  ge_at (k0_pay8 x0 x3) l _ _ (best_at x0 x3 l) rfl

/-- A bit widened and turned to a float is one or zero. -/
theorem bit_at (p : Prop) [Decidable p] :
    (FloatOps.sitofp FTy.f32 (BitVec.setWidth 32 (BitVec.ofBool (decide p))) : Ideal .f32) = ind p := by
  by_cases h : p
  · simp only [h, decide_true, ind, if_true]
    show ((((1#32 : BitVec 32).toInt : Int) : ℝ) : EReal) = 1
    simp
  · simp only [h, decide_false, ind, if_false]
    show ((((0#32 : BitVec 32).toInt : Int) : ℝ) : EReal) = 0
    simp

/-- The same, for a proposition said another way. -/
theorem bit_iff (p q : Prop) [Decidable p] [Decidable q] (h : p ↔ q) :
    (FloatOps.sitofp FTy.f32 (BitVec.setWidth 32 (BitVec.ofBool (decide p))) : Ideal .f32) = ind q := by
  rw [bit_at]; unfold ind; simp [h]

/-- Which anchors match, as one or zero. -/
theorem posf_at (l : Fin 16384) :
    k0_pay10 x0 x3 (ix2 (0 : Fin 1) l : S1x16384.Idx) = ind (Pos (tg x0) (an x3 l)) := by
  pointwise [k0_pay10]
  rw [pos_at]
  exact bit_iff _ _ Iff.rfl

/-- The test of two words, widened and turned to a float. -/
theorem bit_eq (a b : BitVec 32) :
    (FloatOps.sitofp FTy.f32 (BitVec.setWidth 32 (IntOp.cmpi CmpIPredicate.eq a b)) : Ideal .f32) = ind (a = b) :=
  bit_iff (a = b) (a = b) Iff.rfl

/-- A choice by a decided bit. -/
theorem select_dec {α : Type} (p q : Prop) [Decidable p] [Decidable q] (h : p ↔ q) (a b : α) :
    Scalar.select (BitVec.ofBool (decide p)) a b = if q then a else b := by
  by_cases hq : q <;> simp [Scalar.select, h, hq]

/-- The gathered rows of a block: the kernel's product of its table with the marks. -/
abbrev rows : FVec Ideal S25x16384 .f32 :=
  k0_pay11 (k0_pay7 x0 x3) (k0_pay8 x0 x3) (k0_pay9 x0 x3) (Scalar.ofBits .f32 0x40000000#32) x2 x1

/-- The kernel's matched box. -/
def kBox (l : Fin 16384) : Box := fun k => ∑ t, x1 (ix2 k t) * mark (tg x0) (an x3 l) t
/-- The kernel's class target. -/
def kCls (l : Fin 16384) (c : Fin 21) : EReal :=
  ∑ t, ind (x2 (ix2 (0 : Fin 1) t) = BitVec.ofNat 32 c.val) * mark (tg x0) (an x3 l) t

/-- The first four gathered rows are the matched box. -/
theorem rows_box (k : Fin 4) (l : Fin 16384) (h : k.val < 25) :
    rows x0 x1 x2 x3 (ix2 (⟨k.val, h⟩ : Fin 25) l : S25x16384.Idx) = kBox x0 x1 x3 l k := by
  unfold rows
  pointwise [k0_pay11]
  unfold kBox
  refine Finset.sum_congr rfl fun t _ => ?_
  rw [pos_at, best_at, iou_at, select_dec (cHalf ≤ best (tg x0) (an x3 l)) (Pos (tg x0) (an x3 l)) Iff.rfl]
  exact congrArg _ (bit_at _)

/-- The others are the class targets. -/
theorem rows_cls (c : Fin 21) (l : Fin 16384) (h : 4 + c.val < 25) :
    rows x0 x1 x2 x3 (ix2 (⟨4 + c.val, h⟩ : Fin 25) l : S25x16384.Idx) = kCls x0 x2 x3 l c := by
  unfold rows
  pointwise [k0_pay11]
  unfold kCls
  refine Finset.sum_congr rfl fun t _ => ?_
  rw [pos_at, best_at, iou_at, select_dec (cHalf ≤ best (tg x0) (an x3 l)) (Pos (tg x0) (an x3 l)) Iff.rfl, bit_eq]
  exact congrArg _ (bit_at _)

/-- The cross entropies. -/
theorem ce_at (c : Fin 21) (l : Fin 16384) :
    k0_pay14 (k0_pay7 x0 x3) (k0_pay8 x0 x3) (k0_pay9 x0 x3) (Scalar.ofBits .f32 0x40000000#32) x2 x1 x4 (ix2 c l : S21x16384.Idx)
      = ce (x4 (ix2 c l)) (kCls x0 x2 x3 l c) := by
  rw [← rows_cls x0 x1 x2 x3 c l (by omega)]
  pointwise [k0_pay14, k0_pay13, k0_pay12]
  unfold ce
  simp only [Ideal.absf_def, zero_sub]
  rfl

/-- The probabilities of the right answers. -/
theorem pt_at (c : Fin 21) (l : Fin 16384) :
    k0_pay15 (k0_pay7 x0 x3) (k0_pay8 x0 x3) (k0_pay9 x0 x3) (Scalar.ofBits .f32 0x40000000#32) x2 x1 x4 (ix2 c l : S21x16384.Idx)
      = pt (x4 (ix2 c l)) (kCls x0 x2 x3 l c) := by
  rw [← rows_cls x0 x1 x2 x3 c l (by omega)]
  pointwise [k0_pay15, k0_pay13, k0_pay12]
  rfl

/-- The class weights. -/
theorem aw_at (c : Fin 21) (l : Fin 16384) :
    k0_pay16 (k0_pay7 x0 x3) (k0_pay8 x0 x3) (k0_pay9 x0 x3) (Scalar.ofBits .f32 0x40000000#32) x2 x1 (ix2 c l : S21x16384.Idx)
      = aw (kCls x0 x2 x3 l c) := by
  rw [← rows_cls x0 x1 x2 x3 c l (by omega)]
  pointwise [k0_pay16, k0_pay12]
  rfl

/-- The focal loss of a block. -/
def kFocal : EReal := ∑ c : Fin 21, ∑ l : Fin 16384, focal (x4 (ix2 c l)) (kCls x0 x2 x3 l c)

/-- The class sum of a block, whatever the arrays it multiplies read. -/
theorem class_sum (v78 v86 v93 : FVec Ideal S21x16384 .f32) (A B C : Fin 21 → Fin 16384 → EReal)
    (hA : ∀ c l, v78 (ix2 c l) = A c l) (hB : ∀ c l, v86 (ix2 c l) = B c l) (hC : ∀ c l, v93 (ix2 c l) = C c l) :
    k0_pay17 v78 v86 v93 (Scalar.ofBits .f32 0x3F800000#32)
      = ∑ c : Fin 21, ∑ l : Fin 16384, C c l * (1 - B c l) * (1 - B c l) * A c l := by
  pointwise [k0_pay17]
  simp only [hA, hB, hC]

/-- The kernel's class sum is the focal loss of its block. -/
theorem focal_at :
    k0_pay17 (k0_pay14 (k0_pay7 x0 x3) (k0_pay8 x0 x3) (k0_pay9 x0 x3) (Scalar.ofBits .f32 0x40000000#32) x2 x1 x4)
      (k0_pay15 (k0_pay7 x0 x3) (k0_pay8 x0 x3) (k0_pay9 x0 x3) (Scalar.ofBits .f32 0x40000000#32) x2 x1 x4)
      (k0_pay16 (k0_pay7 x0 x3) (k0_pay8 x0 x3) (k0_pay9 x0 x3) (Scalar.ofBits .f32 0x40000000#32) x2 x1)
      (Scalar.ofBits .f32 0x3F800000#32) = kFocal x0 x2 x3 x4 := by
  exact class_sum _ _ _ _ _ _ (fun c l => ce_at x0 x1 x2 x3 x4 c l) (fun c l => pt_at x0 x1 x2 x3 x4 c l)
    fun c l => aw_at x0 x1 x2 x3 c l

/-! ## The box loss -/

/-- Row `k` of the anchors. -/
theorem an0_at (l : Fin 16384) : k0_pay3 x3 (ix2 (0 : Fin 1) l : S1x16384.Idx) = an x3 l 0 := by
  pointwise [k0_pay3, k0_pay2]; rfl
/-- Row one of the anchors. -/
theorem an1_at (l : Fin 16384) : k0_pay4 x3 (ix2 (0 : Fin 1) l : S1x16384.Idx) = an x3 l 1 := by
  pointwise [k0_pay4, k0_pay2]; rfl
/-- Row two of the anchors. -/
theorem an2_at (l : Fin 16384) : k0_pay5 x3 (ix2 (0 : Fin 1) l : S1x16384.Idx) = an x3 l 2 := by
  pointwise [k0_pay5, k0_pay2]; rfl
/-- Row three of the anchors. -/
theorem an3_at (l : Fin 16384) : k0_pay6 x3 (ix2 (0 : Fin 1) l : S1x16384.Idx) = an x3 l 3 := by
  pointwise [k0_pay6, k0_pay2]; rfl

/-- The encoded first centre. -/
theorem enc0_at (l : Fin 16384) :
    k0_pay25 (k0_pay3 x3) (k0_pay5 x3) (rows x0 x1 x2 x3) (ix2 (0 : Fin 1) l : S1x16384.Idx)
      = enc (kBox x0 x1 x3 l) (an x3 l) 0 := by
  have h0 := rows_box x0 x1 x2 x3 0 l (by decide)
  have h2 := rows_box x0 x1 x2 x3 2 l (by decide)
  unfold enc; rw [← h0, ← h2, ← an0_at, ← an2_at]
  pointwise [k0_pay25, k0_pay23, k0_pay21, k0_pay19, k0_pay18]
  rfl

/-- The encoded second centre. -/
theorem enc1_at (l : Fin 16384) :
    k0_pay26 (k0_pay4 x3) (k0_pay6 x3) (rows x0 x1 x2 x3) (ix2 (0 : Fin 1) l : S1x16384.Idx)
      = enc (kBox x0 x1 x3 l) (an x3 l) 1 := by
  have h0 := rows_box x0 x1 x2 x3 1 l (by decide)
  have h2 := rows_box x0 x1 x2 x3 3 l (by decide)
  unfold enc; rw [← h0, ← h2, ← an1_at, ← an3_at]
  pointwise [k0_pay26, k0_pay24, k0_pay22, k0_pay20, k0_pay18]
  rfl

/-- The encoded first extent. -/
theorem enc2_at (l : Fin 16384) :
    k0_pay27 (k0_pay3 x3) (k0_pay5 x3) (rows x0 x1 x2 x3) (ix2 (0 : Fin 1) l : S1x16384.Idx)
      = enc (kBox x0 x1 x3 l) (an x3 l) 2 := by
  have h0 := rows_box x0 x1 x2 x3 0 l (by decide)
  have h2 := rows_box x0 x1 x2 x3 2 l (by decide)
  unfold enc; rw [← h0, ← h2, ← an0_at, ← an2_at]
  pointwise [k0_pay27, k0_pay23, k0_pay21, k0_pay19, k0_pay18]
  rfl

/-- The encoded second extent. -/
theorem enc3_at (l : Fin 16384) :
    Ideal.div (Ideal.log (Ideal.div (k0_pay28 (rows x0 x1 x2 x3) (ix2 (0 : Fin 1) l : S1x16384.Idx))
        (max cMin (k0_pay24 (k0_pay4 x3) (k0_pay6 x3) (ix2 (0 : Fin 1) l : S1x16384.Idx))))) cV1
      = enc (kBox x0 x1 x3 l) (an x3 l) 3 := by
  have h0 := rows_box x0 x1 x2 x3 1 l (by decide)
  have h2 := rows_box x0 x1 x2 x3 3 l (by decide)
  unfold enc; rw [← h0, ← h2, ← an1_at, ← an3_at]
  pointwise [k0_pay28, k0_pay24, k0_pay22, k0_pay20, k0_pay18]
  rfl

/-- A lane that is not lane zero and is lane one. -/
theorem pick_one (v a b : EReal) (h : a = b) : Scalar.select (IntOp.cmpi CmpIPredicate.eq 1#32 0#32) v 0 + a = b := by
  rw [← h]; exact zero_add a
/-- A lane that is lane two. -/
theorem pick_two (a b : EReal) (h : a = b) : Scalar.select (IntOp.cmpi CmpIPredicate.eq 2#32 2#32) a 0 = b := h

section
variable (v48 : FVec Ideal S1x16384 .f32) (v102 : Ideal .f32) (v123 v127 v131 v139 v141 : FVec Ideal S1x16384 .f32)

/-- Lane zero of the first part is the class sum. -/
theorem lane0 : k0_pay29 v48 v102 v123 v127 v131 v139 v141 (Scalar.ofBits .f32 0x358637BD#32) x5
    (ix3 (0 : Fin 1) (0 : Fin 1) (0 : Fin 128) : S1x1x128.Idx) = v102 := by
  pointwise [k0_pay29]
  simp [Scalar.select, IntOp.cmpi]

/-- Lane two of the first part is zero. -/
theorem lane2 : k0_pay29 v48 v102 v123 v127 v131 v139 v141 (Scalar.ofBits .f32 0x358637BD#32) x5
    (ix3 (0 : Fin 1) (0 : Fin 1) (2 : Fin 128) : S1x1x128.Idx) = 0 := by
  pointwise [k0_pay29]
  simp [Scalar.select, IntOp.cmpi]

/-- Lane one of the first part is the smooth L1 sum of whatever the encodings and the marks of the block are. -/
theorem lane1 (E : Fin 4 → Fin 16384 → EReal) (p : Fin 16384 → EReal)
    (h0 : ∀ l, v127 (ix2 (0 : Fin 1) l) = E 0 l) (h1 : ∀ l, v131 (ix2 (0 : Fin 1) l) = E 1 l)
    (h2 : ∀ l, v139 (ix2 (0 : Fin 1) l) = E 2 l)
    (h3 : ∀ l, Ideal.div (Ideal.log (Ideal.div (v141 (ix2 (0 : Fin 1) l)) (max cMin (v123 (ix2 (0 : Fin 1) l))))) cV1 = E 3 l)
    (hp : ∀ l, v48 (ix2 (0 : Fin 1) l) = p l) :
    k0_pay29 v48 v102 v123 v127 v131 v139 v141 (Scalar.ofBits .f32 0x358637BD#32) x5
      (ix3 (0 : Fin 1) (0 : Fin 1) (1 : Fin 128) : S1x1x128.Idx)
      = ∑ k : Fin 4, ∑ l : Fin 16384, sl1 (x5 (ix2 k l) - E k l) * p l := by
  pointwise [k0_pay29]
  refine pick_one _ _ _ ?_
  refine Finset.sum_congr rfl fun k _ => Finset.sum_congr rfl fun l _ => ?_
  rw [hp]
  refine congrArg (· * p l) ?_
  fin_cases k
  · exact (congrArg (fun e => sl1 (x5 (ix2 0 l) - e)) (h0 l))
  · exact (congrArg (fun e => sl1 (x5 (ix2 1 l) - e)) (h1 l))
  · exact (congrArg (fun e => sl1 (x5 (ix2 2 l) - e)) (h2 l))
  · exact (congrArg (fun e => sl1 (x5 (ix2 3 l) - e)) (h3 l))

/-- The second part at lane zero. -/
theorem cnt0 : k0_pay30 v48 (ix3 (0 : Fin 1) (0 : Fin 1) (0 : Fin 128) : S1x1x128.Idx) = 0 := by
  pointwise [k0_pay30]; rfl
/-- The second part at lane one. -/
theorem cnt1 : k0_pay30 v48 (ix3 (0 : Fin 1) (0 : Fin 1) (1 : Fin 128) : S1x1x128.Idx) = 0 := by
  pointwise [k0_pay30]; rfl
/-- The second part at lane two is the number of matches. -/
theorem cnt2 : k0_pay30 v48 (ix3 (0 : Fin 1) (0 : Fin 1) (2 : Fin 128) : S1x1x128.Idx) = ∑ l : Fin 16384, v48 (ix2 (0 : Fin 1) l) := by
  pointwise [k0_pay30]
  refine pick_two _ _ ?_
  simp
end
end Cert.KernelIdeal.Block
-- ==== Proof.KerBlocks.lean ====
module

public import proofs.«01_k».proof.Proof.KerRead
public import Idealize.ShloMosaic.Lib.Pipeline.ValueKit

@[expose] public section

/-!
The arrays the launch hands to each grid point, in terms of the arguments, and the array the launch leaves.
-/

set_option maxRecDepth 16384
noncomputable section

open Idealize.ShloMosaic Idealize.ShloMosaic.TcCoe Idealize.SL.Sem
open Idealize.ShloMosaic.Pipeline (Dat)
namespace Cert.KernelIdeal.Block
open Cert.KernelIdeal Cert.KernelIdeal.Gen Cert.Match

variable (m : (ℓ : Loc nD τ sig) → Buf (Elt Ideal) ℓ)

/-- The block index of every window at every grid point. -/
theorem idx : ∀ t : Fin cfg0.N, win0_0.index t = ![0, 0] ∧ win0_1.index t = ![0, 0] ∧ win0_2.index t = ![0, 0]
    ∧ win0_3.index t = ![0, t.val] ∧ win0_4.index t = ![0, t.val] ∧ win0_5.index t = ![0, t.val]
    ∧ win0_6.index t = ![t.val, 0, 0] :=
  (by decide +kernel : ∀ t : Fin grid0.N, _)

/-- Lane `l` of block `j` among all the lanes. -/
def lane (j : Fin 4) (l : Fin 16384) : Fin 65536 := ⟨j.val * 16384 + l.val, by omega⟩

/-- A grid point as a number below four. -/
def pnt (t : Fin cfg0.N) : Fin 4 := ⟨t.val, by have := t.isLt; have h : cfg0.N = 4 := N_0; omega⟩

/-- A table of boxes, turned over. -/
def flip (A : FVec Ideal S256x4 .f32) : Vec Ideal S4x256 .f32 := fun y => A (ix2 (y 1) (y 0))
/-- The labels as a row. -/
def row (L : IVec S256 32) : Vec Ideal S1x256 .i32 := fun y => L (ix1 (y 1))
/-- Block `j` of an array of four columns, turned over. -/
def cut4 (A : FVec Ideal S65536x4 .f32) (j : Fin 4) : Vec Ideal S4x16384 .f32 := fun y => A (ix2 (lane j (y 1)) (y 0))
/-- Block `j` of the class scores, turned over. -/
def cut21 (A : FVec Ideal S65536x21 .f32) (j : Fin 4) : Vec Ideal S21x16384 .f32 := fun y => A (ix2 (lane j (y 1)) (y 0))

section
open Idealize.ShloMosaic.StableHlo
/-- The labels, as the launch is given them, by the operation that prepares them. -/
theorem pre_v0 (c : Dev nD) : V m c main_v0 = (shapeCast S1x256 (m ((c : Thread nD τ).loc main_arg4)) shapeCasts_S256_S1x256 : Vec Ideal S1x256 .i32) := by
  unfold V V0
  simp only [hostOps0, List.flatten_cons, List.flatten_nil, List.append_nil, List.cons_append, List.nil_append]
  after_results_simp <;> rfl
/-- The labels, as the launch is given them. -/
theorem V_v0 (c : Dev nD) : V m c main_v0 = (row (m ((c : Thread nD τ).loc main_arg4)) : Vec Ideal S1x256 .i32) := by
  refine (pre_v0 m c).trans ?_
  funext y
  pointwise [row]
  try blk_ext

/-- The class scores, as the launch is given them, by the operation that prepares them. -/
theorem pre_v1 (c : Dev nD) : V m c main_v1 = (transpose S21x65536 [1, 0] (m ((c : Thread nD τ).loc main_arg0)) transposes_S65536x21_S21x65536_1_0 : Vec Ideal S21x65536 .f32) := by
  unfold V V0
  simp only [hostOps0, List.flatten_cons, List.flatten_nil, List.append_nil, List.cons_append, List.nil_append]
  after_results_simp <;> rfl
/-- The class scores, as the launch is given them. -/
theorem V_v1 (c : Dev nD) : V m c main_v1 = (fun y => (m ((c : Thread nD τ).loc main_arg0) : FVec Ideal S65536x21 .f32) (ix2 (y 1) (y 0)) : Vec Ideal S21x65536 .f32) := by
  refine (pre_v1 m c).trans ?_
  funext y
  pointwise
  try blk_ext

/-- The predicted boxes, as the launch is given them, by the operation that prepares them. -/
theorem pre_v2 (c : Dev nD) : V m c main_v2 = (transpose S4x65536 [1, 0] (m ((c : Thread nD τ).loc main_arg1)) transposes_S65536x4_S4x65536_1_0 : Vec Ideal S4x65536 .f32) := by
  unfold V V0
  simp only [hostOps0, List.flatten_cons, List.flatten_nil, List.append_nil, List.cons_append, List.nil_append]
  after_results_simp <;> rfl
/-- The predicted boxes, as the launch is given them. -/
theorem V_v2 (c : Dev nD) : V m c main_v2 = (fun y => (m ((c : Thread nD τ).loc main_arg1) : FVec Ideal S65536x4 .f32) (ix2 (y 1) (y 0)) : Vec Ideal S4x65536 .f32) := by
  refine (pre_v2 m c).trans ?_
  funext y
  pointwise
  try blk_ext

/-- The anchors, as the launch is given them, by the operation that prepares them. -/
theorem pre_v3 (c : Dev nD) : V m c main_v3 = (transpose S4x65536 [1, 0] (m ((c : Thread nD τ).loc main_arg2)) transposes_S65536x4_S4x65536_1_0 : Vec Ideal S4x65536 .f32) := by
  unfold V V0
  simp only [hostOps0, List.flatten_cons, List.flatten_nil, List.append_nil, List.cons_append, List.nil_append]
  after_results_simp <;> rfl
/-- The anchors, as the launch is given them. -/
theorem V_v3 (c : Dev nD) : V m c main_v3 = (fun y => (m ((c : Thread nD τ).loc main_arg2) : FVec Ideal S65536x4 .f32) (ix2 (y 1) (y 0)) : Vec Ideal S4x65536 .f32) := by
  refine (pre_v3 m c).trans ?_
  funext y
  pointwise
  try blk_ext

/-- The turned target boxes, as the launch is given them, by the operation that prepares them. -/
theorem pre_v4 (c : Dev nD) : V m c main_v4 = (transpose S4x256 [1, 0] (m ((c : Thread nD τ).loc main_arg3)) transposes_S256x4_S4x256_1_0 : Vec Ideal S4x256 .f32) := by
  unfold V V0
  simp only [hostOps0, List.flatten_cons, List.flatten_nil, List.append_nil, List.cons_append, List.nil_append]
  after_results_simp <;> rfl
/-- The turned target boxes, as the launch is given them. -/
theorem V_v4 (c : Dev nD) : V m c main_v4 = (flip (m ((c : Thread nD τ).loc main_arg3)) : Vec Ideal S4x256 .f32) := by
  refine (pre_v4 m c).trans ?_
  funext y
  pointwise [flip]
  try blk_ext

end

/-- The target boxes reach every point whole. -/
theorem iblk0 (c : Dev nD) (t : Fin cfg0.N) : iblk m c 0 t = m ((c : Thread nD τ).loc main_arg3) := by
  funext y
  blk_ext! [iblk, V, idx t]

/-- The turned target boxes reach every point whole. -/
theorem iblk1 (c : Dev nD) (t : Fin cfg0.N) : iblk m c 1 t = flip (m ((c : Thread nD τ).loc main_arg3)) := by
  funext y
  refine (congrFun (V_v4 m c) (((cfg0.win 1).blk t).view.emb y)).trans ?_
  blk_ext [flip, idx t]

/-- The labels reach every point whole. -/
theorem iblk2 (c : Dev nD) (t : Fin cfg0.N) : iblk m c 2 t = row (m ((c : Thread nD τ).loc main_arg4)) := by
  funext y
  refine (congrFun (V_v0 m c) (((cfg0.win 2).blk t).view.emb y)).trans ?_
  blk_ext [row, idx t]

/-- The anchors reach a point as its block. -/
theorem iblk3 (c : Dev nD) (t : Fin cfg0.N) : iblk m c 3 t = cut4 (m ((c : Thread nD τ).loc main_arg2)) (pnt t) := by
  funext y
  refine (congrFun (V_v3 m c) (((cfg0.win 3).blk t).view.emb y)).trans ?_
  blk_ext [cut4, lane, pnt, idx t]

/-- The class scores reach a point as its block. -/
theorem iblk4 (c : Dev nD) (t : Fin cfg0.N) : iblk m c 4 t = cut21 (m ((c : Thread nD τ).loc main_arg0)) (pnt t) := by
  funext y
  refine (congrFun (V_v1 m c) (((cfg0.win 4).blk t).view.emb y)).trans ?_
  blk_ext [cut21, lane, pnt, idx t]

/-- The predicted boxes reach a point as its block. -/
theorem iblk5 (c : Dev nD) (t : Fin cfg0.N) : iblk m c 5 t = cut4 (m ((c : Thread nD τ).loc main_arg1)) (pnt t) := by
  funext y
  refine (congrFun (V_v2 m c) (((cfg0.win 5).blk t).view.emb y)).trans ?_
  blk_ext [cut4, lane, pnt, idx t]

end Cert.KernelIdeal.Block
-- ==== Proof.KerOut.lean ====
module

public import proofs.«01_k».proof.Proof.KerBlocks

@[expose] public section

/-!
The array the launch leaves: three sums for each block of anchors.
-/

set_option maxRecDepth 16384
noncomputable section

open Idealize.ShloMosaic Idealize.ShloMosaic.TcCoe Idealize.SL.Sem
open Idealize.ShloMosaic.Pipeline (Dat)
namespace Cert.KernelIdeal.Block
open Cert.KernelIdeal Cert.KernelIdeal.Gen Cert.Match

section
variable (x0 : Vec Ideal S256x4 .f32) (x1 : Vec Ideal S4x256 .f32) (x2 : Vec Ideal S1x256 .i32)
  (x3 : Vec Ideal S4x16384 .f32) (x4 : Vec Ideal S21x16384 .f32) (x5 : Vec Ideal S4x16384 .f32)

/-- The smooth L1 loss of a block. -/
def kSmooth : EReal := ∑ k : Fin 4, ∑ l : Fin 16384, boxLoss (fun i => x5 (ix2 i l)) (kBox x0 x1 x3 l) (an x3 l) (ind (Pos (tg x0) (an x3 l))) k
/-- The number of matching anchors of a block. -/
def kCount : EReal := ∑ l : Fin 16384, ind (Pos (tg x0) (an x3 l))

/-- The whole block the body stores, with its loads read. -/
theorem out_eq : out0_6 x0 x1 x2 x3 x4 x5 = k0_pay1
    (k0_pay29 (k0_pay10 x0 x3)
      (k0_pay17 (k0_pay14 (k0_pay7 x0 x3) (k0_pay8 x0 x3) (k0_pay9 x0 x3) (Scalar.ofBits .f32 0x40000000#32) x2 x1 x4)
        (k0_pay15 (k0_pay7 x0 x3) (k0_pay8 x0 x3) (k0_pay9 x0 x3) (Scalar.ofBits .f32 0x40000000#32) x2 x1 x4)
        (k0_pay16 (k0_pay7 x0 x3) (k0_pay8 x0 x3) (k0_pay9 x0 x3) (Scalar.ofBits .f32 0x40000000#32) x2 x1)
        (Scalar.ofBits .f32 0x3F800000#32))
      (k0_pay24 (k0_pay4 x3) (k0_pay6 x3))
      (k0_pay25 (k0_pay3 x3) (k0_pay5 x3) (rows x0 x1 x2 x3))
      (k0_pay26 (k0_pay4 x3) (k0_pay6 x3) (rows x0 x1 x2 x3))
      (k0_pay27 (k0_pay3 x3) (k0_pay5 x3) (rows x0 x1 x2 x3))
      (k0_pay28 (rows x0 x1 x2 x3)) (Scalar.ofBits .f32 0x358637BD#32) x5)
    (k0_pay30 (k0_pay10 x0 x3)) := by
  unfold_out out0_6
  frame_out

/-- The two parts of a block are added lane by lane. -/
theorem add_at (a b : FVec Ideal S1x1x128 .f32) (i : S1x1x128.Idx) : k0_pay1 a b i = a i + b i := by
  unfold k0_pay1; rfl

/-- Lane zero of a block: its focal loss. -/
theorem out_0 : out0_6 x0 x1 x2 x3 x4 x5 (ix3 (0 : Fin 1) (0 : Fin 1) (0 : Fin 128) : S1x1x128.Idx) = kFocal x0 x2 x3 x4 := by
  rw [out_eq, focal_at]
  rw [add_at, lane0, cnt0, add_zero]

/-- Lane one of a block: its smooth L1 loss. -/
theorem out_1 : out0_6 x0 x1 x2 x3 x4 x5 (ix3 (0 : Fin 1) (0 : Fin 1) (1 : Fin 128) : S1x1x128.Idx) = kSmooth x0 x1 x3 x5 := by
  rw [out_eq, focal_at]
  rw [add_at, cnt1, add_zero, lane1 x5 _ _ _ _ _ _ _ (fun k l => enc (kBox x0 x1 x3 l) (an x3 l) k) (fun l => ind (Pos (tg x0) (an x3 l)))
    (fun l => enc0_at x0 x1 x2 x3 l) (fun l => enc1_at x0 x1 x2 x3 l) (fun l => enc2_at x0 x1 x2 x3 l)
    (fun l => enc3_at x0 x1 x2 x3 l) (fun l => posf_at x0 x3 l)]
  rfl

/-- Lane two of a block: its number of matching anchors. -/
theorem out_2 : out0_6 x0 x1 x2 x3 x4 x5 (ix3 (0 : Fin 1) (0 : Fin 1) (2 : Fin 128) : S1x1x128.Idx) = kCount x0 x3 := by
  rw [out_eq, focal_at]
  rw [add_at, lane2, cnt2, zero_add]
  exact Finset.sum_congr rfl fun l _ => posf_at x0 x3 l
end

variable (m : (ℓ : Loc nD τ sig) → Buf (Elt Ideal) ℓ)

/-- What block `j` of the result array holds, from the arguments. -/
def blockOut (c : Dev nD) (j : Fin 4) : Vec Ideal S1x1x128 .f32 :=
  out0_6 (m ((c : Thread nD τ).loc main_arg3)) (flip (m ((c : Thread nD τ).loc main_arg3)))
    (row (m ((c : Thread nD τ).loc main_arg4))) (cut4 (m ((c : Thread nD τ).loc main_arg2)) j)
    (cut21 (m ((c : Thread nD τ).loc main_arg0)) j) (cut4 (m ((c : Thread nD τ).loc main_arg1)) j)

/-- The whole result array, from the arguments. -/
def outArr (c : Dev nD) : FVec Ideal S4x1x128 .f32 := fun i => blockOut m c (i 0) (ix3 (0 : Fin 1) (0 : Fin 1) (i 2))

/-- The result array after the run. -/
theorem final (c : Dev nD) : (dats m 0 c).arrAt 6 (cfgs 0).N = outArr m c := by
  refine (dats m 0 c).arrAt_eq_of_covers 6 _ (by decide +kernel) fun t _ y => ?_
  blk_simp
  rw [after0_6, iblk0, iblk1, iblk2, iblk3, iblk4, iblk5]
  have h0 : (((cfg0.win 6).blk t).view.emb y) 0 = pnt t := by
    apply Fin.ext; blk_simp [idx t, pnt]
  have h2 : (ix3 (0 : Fin 1) (0 : Fin 1) ((((cfg0.win 6).blk t).view.emb y) 2) : S1x1x128.Idx) = y := by
    blk_ext [idx t]
  show blockOut m c (pnt t) y = outArr m c _
  unfold outArr
  rw [h2]
  exact congrArg (fun j => blockOut m c j y) h0.symm

end Cert.KernelIdeal.Block
-- ==== Proof.KerTail.lean ====
module

public import proofs.«01_k».proof.Proof.Gen.KernelIdeal.Frame
public import Idealize.ShloMosaic.Lib.Pointwise
public import Idealize.ShloMosaic.Lib.Pipeline.ValueKit

@[expose] public section

/-!
The host's lines after the launch: the sums over the blocks, and the three results.
-/

set_option maxRecDepth 16384
noncomputable section

open Idealize.ShloMosaic Idealize.ShloMosaic.TcCoe Idealize.SL.Sem Idealize.ShloMosaic.StableHlo
namespace Cert.KernelIdeal.Block
open Cert.KernelIdeal Cert.KernelIdeal.Gen

/-- The sums of the blocks, lane by lane. -/
def sums (v5 : FVec Ideal S4x1x128 .f32) : FVec Ideal S128 .f32 :=
  Host.reduceAdd (shapeCast S4x128 v5 shapeCasts_S4x1x128_S4x128) (constant S_ .f32 0x00000000#32) reducesTo_S4x128_S128_d0 h_S_
/-- The classification loss, from the result array. -/
def fin14 (v5 : FVec Ideal S4x1x128 .f32) : FVec Ideal S_ .f32 :=
  Host.divf (shapeCast S_ (extractStridedSlice S1 ![0] (sums v5) slices_S128_S1_0) shapeCasts_S1_S_)
    (shapeCast S_ (extractStridedSlice S1 ![2] (sums v5) slices_S128_S1_2) shapeCasts_S1_S_)
/-- The box loss, from the result array. -/
def fin16 (v5 : FVec Ideal S4x1x128 .f32) : FVec Ideal S_ .f32 :=
  Host.divf (shapeCast S_ (extractStridedSlice S1 ![1] (sums v5) slices_S128_S1_1) shapeCasts_S1_S_)
    (mulf (shapeCast S_ (extractStridedSlice S1 ![2] (sums v5) slices_S128_S1_2) shapeCasts_S1_S_) (constant S_ .f32 0x40800000#32))
/-- The whole loss, from the result array. -/
def fin17 (v5 : FVec Ideal S4x1x128 .f32) : FVec Ideal S_ .f32 := addf (fin14 v5) (fin16 v5)

/-- The classification loss after the last lines. -/
theorem tail14 (V : Valuation τ sig (Elt Ideal)) : after hostOps1 V (Proc.devRef .tc main_v14) = fin14 (V (Proc.devRef .tc main_v5)) := by
  simp only [hostOps1]
  after_results_simp <;> rfl
/-- The box loss after the last lines. -/
theorem tail16 (V : Valuation τ sig (Elt Ideal)) : after hostOps1 V (Proc.devRef .tc main_v16) = fin16 (V (Proc.devRef .tc main_v5)) := by
  simp only [hostOps1]
  after_results_simp <;> rfl
/-- The whole loss after the last lines. -/
theorem tail17 (V : Valuation τ sig (Elt Ideal)) : after hostOps1 V (Proc.devRef .tc main_v17) = fin17 (V (Proc.devRef .tc main_v5)) := by
  simp only [hostOps1]
  after_results_simp <;> rfl

/-- A lane's sum over the blocks. -/
theorem sums_at (v5 : FVec Ideal S4x1x128 .f32) (l : Fin 128) : sums v5 (ix1 l) = ∑ j : Fin 4, v5 (ix3 j (0 : Fin 1) l) := by
  pointwise [sums]
  try blk_point

/-- The classification loss is a quotient of two lanes' sums. -/
theorem fin14_at (v5 : FVec Ideal S4x1x128 .f32) (y : S_.Idx) : fin14 v5 y
    = Ideal.div (∑ j : Fin 4, v5 (ix3 j (0 : Fin 1) (0 : Fin 128))) (∑ j : Fin 4, v5 (ix3 j (0 : Fin 1) (2 : Fin 128))) := by
  rw [← sums_at, ← sums_at]
  pointwise [fin14]
  try blk_point

/-- The box loss is a quotient of two lanes' sums. -/
theorem fin16_at (v5 : FVec Ideal S4x1x128 .f32) (y : S_.Idx) : fin16 v5 y
    = Ideal.div (∑ j : Fin 4, v5 (ix3 j (0 : Fin 1) (1 : Fin 128)))
      ((∑ j : Fin 4, v5 (ix3 j (0 : Fin 1) (2 : Fin 128))) * Ideal.ofBits .f32 0x40800000#32) := by
  rw [← sums_at, ← sums_at]
  pointwise [fin16]
  try blk_point

end Cert.KernelIdeal.Block
-- ==== Proof.KerRun.lean ====
module

public import proofs.«01_k».proof.Proof.KerOut
public import proofs.«01_k».proof.Proof.KerTail

@[expose] public section

/-!
The kernel's run: its three results as sums over the blocks of anchors.
-/

set_option maxRecDepth 16384
noncomputable section

open Idealize.ShloMosaic Idealize.ShloMosaic.TcCoe Idealize.SL.Sem
namespace Cert.KernelIdeal.Block
open Cert.KernelIdeal Cert.KernelIdeal.Gen Cert.Match

variable (m : (ℓ : Loc nD τ sig) → Buf (Elt Ideal) ℓ) (ρ : Dev nD → PrngReg)

/-- The valuation the last lines start from holds the result array. -/
theorem start_v5 (c : Dev nD) :
    Pipeline.withArrays (cfgs 0).spec c (V0 m c) (fun w => (dats m 0 c).arrAt w (cfgs 0).N) (Proc.devRef .tc main_v5) = outArr m c := by
  have hinj : Function.Injective (Pipeline.arrRef spec0) := by decide
  exact (Pipeline.withArrays_arr spec0 hinj c (V0 m c) _ 6).trans (final m c)

/-- An entry of the result array is an entry of its block. -/
theorem outArr_at (c : Dev nD) (j : Fin 4) (l : Fin 128) :
    outArr m c (ix3 j (0 : Fin 1) l : S4x1x128.Idx) = blockOut m c j (ix3 (0 : Fin 1) (0 : Fin 1) l : S1x1x128.Idx) := rfl

/-- The first lane of the result array: the focal losses of each block. -/
theorem outArr_0 (c : Dev nD) (j : Fin 4) : outArr m c (ix3 j (0 : Fin 1) (0 : Fin 128) : S4x1x128.Idx)
    = kFocal (m ((c : Thread nD τ).loc main_arg3)) (row (m ((c : Thread nD τ).loc main_arg4)))
        (cut4 (m ((c : Thread nD τ).loc main_arg2)) j) (cut21 (m ((c : Thread nD τ).loc main_arg0)) j) := by
  rw [outArr_at, blockOut, out_0]
/-- The second lane of the result array: the box losses of each block. -/
theorem outArr_1 (c : Dev nD) (j : Fin 4) : outArr m c (ix3 j (0 : Fin 1) (1 : Fin 128) : S4x1x128.Idx)
    = kSmooth (m ((c : Thread nD τ).loc main_arg3)) (flip (m ((c : Thread nD τ).loc main_arg3)))
        (cut4 (m ((c : Thread nD τ).loc main_arg2)) j) (cut4 (m ((c : Thread nD τ).loc main_arg1)) j) := by
  rw [outArr_at, blockOut, out_1]
/-- The third lane of the result array: the matches of each block. -/
theorem outArr_2 (c : Dev nD) (j : Fin 4) : outArr m c (ix3 j (0 : Fin 1) (2 : Fin 128) : S4x1x128.Idx)
    = kCount (m ((c : Thread nD τ).loc main_arg3)) (cut4 (m ((c : Thread nD τ).loc main_arg2)) j) := by
  rw [outArr_at, blockOut, out_2]

/-- The three results of the kernel, and its arguments unchanged. -/
theorem run : θ_run defs (onTc (τ := τ) (main (F := Ideal))) ⟨m, fun _ => 0, ρ⟩ (fun r => ∀ c : Dev nD,
      (r.2.mem ((c.tc : Thread nD τ).loc main_v17) = fin17 (outArr m c)
      ∧ r.2.mem ((c.tc : Thread nD τ).loc main_v14) = fin14 (outArr m c)
      ∧ r.2.mem ((c.tc : Thread nD τ).loc main_v16) = fin16 (outArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨⟨?_, ?_, ?_⟩, h.2 c⟩) (θ_run_and (run_main m ρ) (unchanged m ρ))
  · refine ((h.1 c).2 main_v17 (Pipeline.mem_restRefs_of main_v17 (by decide) (by decide))).trans ?_
    refine (tail17 _).trans ?_
    rw [start_v5]
  · refine ((h.1 c).2 main_v14 (Pipeline.mem_restRefs_of main_v14 (by decide) (by decide))).trans ?_
    refine (tail14 _).trans ?_
    rw [start_v5]
  · refine ((h.1 c).2 main_v16 (Pipeline.mem_restRefs_of main_v16 (by decide) (by decide))).trans ?_
    refine (tail16 _).trans ?_
    rw [start_v5]

end Cert.KernelIdeal.Block
-- ==== Proof.PreRead.lean ====
module

public import proofs.«01_k».proof.Proof.Gen.Pre_one_best_target
public import proofs.«01_k».proof.Proof.Spec
public import Idealize.ShloMosaic.Lib.Pointwise
public import Idealize.ShloMosaic.Lib.IndicatorCount

@[expose] public section

/-!
The precondition, read at an anchor: it says that no tie decides the anchor's match.
-/

set_option maxRecDepth 16384
noncomputable section

open Idealize.ShloMosaic Idealize.ShloMosaic.TcCoe Idealize.SL.Sem
namespace Cert.Pre_one_best_target.Read
open Cert.Pre_one_best_target Cert.Pre_one_best_target.Gen Cert.Match

variable (arg0 : FVec Ideal S65536x21 .f32) (arg1 arg2 : FVec Ideal S65536x4 .f32) (arg3 : FVec Ideal S256x4 .f32) (arg4 : IVec S256 32)

/-- A coordinate of the anchors, as a row. -/
def rowOf (o : Fin 2 → Nat) (h : S65536x4.Slices o S65536x1) : FVec Ideal S1x65536 .f32 :=
  broadcastInDim S1x65536 ![1] bcast_S65536_S1x65536_1 (shapeCast S65536 (extractStridedSlice S65536x1 o arg2 h) shapeCasts_S65536x1_S65536)
/-- A coordinate of the targets, as a column. -/
def colOf (o : Fin 2 → Nat) (h : S256x4.Slices o S256x1) : FVec Ideal S256x1 .f32 :=
  broadcastInDim S256x1 ![0] bcast_S256_S256x1_0 (shapeCast S256 (extractStridedSlice S256x1 o arg3 h) shapeCasts_S256x1_S256)

/-- The extents of the overlaps along one axis, cut off at zero. -/
def ext (hi lo : FVec Ideal S256x1 .f32) (ahi alo : FVec Ideal S1x65536 .f32) : FVec Ideal S256x65536 .f32 :=
  maximumf (subf (minimumf (broadcastInDim S256x65536 ![0, 1] bcast_S256x1_S256x65536_0_1 hi) (broadcastInDim S256x65536 ![0, 1] bcast_S1x65536_S256x65536_0_1 ahi))
      (maximumf (broadcastInDim S256x65536 ![0, 1] bcast_S256x1_S256x65536_0_1 lo) (broadcastInDim S256x65536 ![0, 1] bcast_S1x65536_S256x65536_0_1 alo)))
    (broadcastInDim S256x65536 ![] bcast_S_S256x65536 (constant S_ .f32 0x00000000#32))
/-- The IoUs from the overlaps and the areas. -/
def quot (x y : FVec Ideal S256x65536 .f32) (at' : FVec Ideal S256x1 .f32) (aa : FVec Ideal S1x65536 .f32) : FVec Ideal S256x65536 .f32 :=
  Host.divf (mulf x y) (addf (subf (addf (broadcastInDim S256x65536 ![0, 1] bcast_S256x1_S256x65536_0_1 at') (broadcastInDim S256x65536 ![0, 1] bcast_S1x65536_S256x65536_0_1 aa)) (mulf x y))
    (broadcastInDim S256x65536 ![] bcast_S_S256x65536 (constant S_ .f32 0x322BCC77#32)))
/-- The IoUs. -/
def ious : FVec Ideal S256x65536 .f32 :=
  quot
    (ext (colOf arg3 _ slices_S256x4_S256x1_0_2) (colOf arg3 _ slices_S256x4_S256x1_0_0) (rowOf arg2 _ slices_S65536x4_S65536x1_0_2) (rowOf arg2 _ slices_S65536x4_S65536x1_0_0))
    (ext (colOf arg3 _ slices_S256x4_S256x1_0_3) (colOf arg3 _ slices_S256x4_S256x1_0_1) (rowOf arg2 _ slices_S65536x4_S65536x1_0_3) (rowOf arg2 _ slices_S65536x4_S65536x1_0_1))
    (mulf (subf (colOf arg3 _ slices_S256x4_S256x1_0_2) (colOf arg3 _ slices_S256x4_S256x1_0_0)) (subf (colOf arg3 _ slices_S256x4_S256x1_0_3) (colOf arg3 _ slices_S256x4_S256x1_0_1)))
    (mulf (subf (rowOf arg2 _ slices_S65536x4_S65536x1_0_2) (rowOf arg2 _ slices_S65536x4_S65536x1_0_0)) (subf (rowOf arg2 _ slices_S65536x4_S65536x1_0_3) (rowOf arg2 _ slices_S65536x4_S65536x1_0_1)))
/-- The best IoUs. -/
def tops (v : FVec Ideal S256x65536 .f32) : FVec Ideal S65536 .f32 :=
  Host.reduce FloatOps.maximumf v (constant S_ .f32 0xFF800000#32) reducesTo_S256x65536_S65536_d0 h_S_
/-- The targets that have the best IoU. -/
def ties (v : FVec Ideal S256x65536 .f32) (b : FVec Ideal S65536 .f32) : IVec S256x65536 1 :=
  cmpf .oeq v (broadcastInDim S256x65536 ![0, 1] bcast_S1x65536_S256x65536_0_1 (broadcastInDim S1x65536 ![1] bcast_S65536_S1x65536_1 b))
/-- Their number. -/
def count (w : IVec S256x65536 1) : IVec S65536 32 :=
  Host.reduce IntOp.addi (extui 32 w natLt_1_32) (constantI S_ 32 0#32) reducesTo_S256x65536_S65536_d0 h_S_
/-- Which best IoUs are below the threshold. -/
def low (b : FVec Ideal S65536 .f32) : IVec S65536 1 :=
  cmpf .olt b (broadcastInDim S65536 ![] bcast_S_S65536 (constant S_ .f32 0x3F000000#32))
/-- The verdict on each anchor. -/
def ok (v : FVec Ideal S256x65536 .f32) : IVec S65536 1 :=
  ori (low (tops v)) (cmpi .eq (count (ties v (tops v))) (broadcastInDim S65536 ![] bcast_S_S65536 (constantI S_ 32 1#32)))

/-- The precondition is that verdict. -/
theorem fn_eq : fn (F := Ideal) arg0 arg1 arg2 arg3 arg4 = ok (ious arg2 arg3) := rfl

/-- The precondition's IoU is the mathematics' IoU. -/
theorem ious_at (t : Fin 256) (n : Fin 65536) : ious arg2 arg3 (ix2 t n : S256x65536.Idx)
    = iou (fun k => arg3 (ix2 t k)) (fun k => arg2 (ix2 n k)) := by
  unfold iou inter
  rw [max_comm 0, max_comm 0]
  pointwise [ious, quot, ext, colOf, rowOf]
  rfl

/-- The best over any array of IoUs. -/
theorem tops_at (v : FVec Ideal S256x65536 .f32) (n : Fin 65536) : tops v (ix1 n : S65536.Idx)
    = Finset.univ.fold max ⊥ fun t : Fin 256 => v (ix2 t n) := by
  pointwise [tops]
  congr 1

/-- The number of targets with the best IoU. -/
theorem count_at (w : IVec S256x65536 1) (n : Fin 65536) : count w (ix1 n : S65536.Idx)
    = BitVec.ofNat 32 (Finset.univ.filter fun t : Fin 256 => w (ix2 t n) = 1#1).card := by
  rw [← IndicatorCount.fold_addi_setWidth_eq_card]
  pointwise [count]

/-- Which targets have the best IoU. -/
theorem ties_at (v : FVec Ideal S256x65536 .f32) (b : FVec Ideal S65536 .f32) (t : Fin 256) (n : Fin 65536) :
    ties v b (ix2 t n : S256x65536.Idx) = 1#1 ↔ v (ix2 t n) = b (ix1 n) := by
  have e : ties v b (ix2 t n : S256x65536.Idx) = BitVec.ofBool (decide (v (ix2 t n) = b (ix1 n))) := by
    pointwise [ties]
  rw [e]
  by_cases h : v (ix2 t n) = b (ix1 n) <;> simp [h]

/-- Which best IoU is below the threshold. -/
theorem low_at (b : FVec Ideal S65536 .f32) (n : Fin 65536) : low b (ix1 n : S65536.Idx) = 1#1 ↔ b (ix1 n) < cHalf := by
  have e : low b (ix1 n : S65536.Idx) = BitVec.ofBool (decide (b (ix1 n) < cHalf)) := by
    pointwise [low]
    rfl
  rw [e]
  by_cases h : b (ix1 n) < cHalf <;> simp [h]

/-- What a true verdict says of an anchor. -/
theorem ok_at (v : FVec Ideal S256x65536 .f32) (n : Fin 65536) (h : ok v (ix1 n : S65536.Idx) = 1#1) :
    tops v (ix1 n) < cHalf ∨ ∃ t : Fin 256, v (ix2 t n) = tops v (ix1 n) ∧ ∀ s : Fin 256, v (ix2 s n) = tops v (ix1 n) → s = t := by
  have hor : ∀ x y : BitVec 1, IntOp.ori x y = 1#1 → x = 1#1 ∨ y = 1#1 := by decide
  have hcmp : ∀ a : BitVec 32, IntOp.cmpi .eq a 1#32 = 1#1 → a = 1#32 := by
    intro a e
    have e1 : BitVec.ofBool (a == 1#32) = 1#1 := e
    by_contra hne
    rw [beq_eq_false_iff_ne.mpr hne] at e1
    exact absurd e1 (by decide)
  rcases hor _ _ (show IntOp.ori (low (tops v) (ix1 n)) _ = 1#1 from h) with h | h
  · exact .inl ((low_at _ n).mp h)
  · right
    have hc : count (ties v (tops v)) (ix1 n) = 1#32 := by
      exact hcmp _ h
    rw [count_at] at hc
    have hle : (Finset.univ.filter fun t : Fin 256 => ties v (tops v) (ix2 t n) = 1#1).card ≤ 256 :=
      (Finset.card_le_univ _).trans (by simp)
    have h1 : (Finset.univ.filter fun t : Fin 256 => ties v (tops v) (ix2 t n) = 1#1).card = 1 := by
      have := congrArg BitVec.toNat hc
      simp only [BitVec.toNat_ofNat] at this
      omega
    obtain ⟨t, ht⟩ := Finset.card_eq_one.mp h1
    refine ⟨t, ?_, fun s hs => ?_⟩
    · have hm : t ∈ (Finset.univ.filter fun t : Fin 256 => ties v (tops v) (ix2 t n) = 1#1) := by
        rw [ht]; exact Finset.mem_singleton_self t
      exact (ties_at v _ t n).mp (Finset.mem_filter.mp hm).2
    · have : s ∈ (Finset.univ.filter fun t : Fin 256 => ties v (tops v) (ix2 t n) = 1#1) :=
        Finset.mem_filter.mpr ⟨Finset.mem_univ s, (ties_at v _ s n).mpr hs⟩
      rw [ht] at this
      exact Finset.mem_singleton.mp this

/-- Under the precondition no tie decides an anchor's match. -/
theorem one_best (h : fn (F := Ideal) arg0 arg1 arg2 arg3 arg4 = fun _ => 1#1) (n : Fin 65536) :
    OneBest (fun t k => arg3 (ix2 t k)) (fun k => arg2 (ix2 n k)) := by
  rw [fn_eq] at h
  have hb : tops (ious arg2 arg3) (ix1 n) = best (fun t k => arg3 (ix2 t k)) (fun k => arg2 (ix2 n k)) := by
    rw [tops_at]
    unfold best
    simp only [ious_at]
  have h1 := ok_at _ n (congrFun h (ix1 n))
  rw [hb] at h1
  simp only [ious_at] at h1
  exact h1

end Cert.Pre_one_best_target.Read
-- ==== Proof.RefRead.lean ====
module

public import proofs.«01_k».proof.Proof.RefStages
public import proofs.«01_k».proof.Proof.Spec
public import Idealize.ShloMosaic.Lib.Pointwise
public import Idealize.ShloMosaic.Lib.Routing.OpsSet

@[expose] public section

/-!
The reference's arrays, read at an index: the same scalar mathematics of one anchor.
-/

set_option maxRecDepth 16384
noncomputable section

open Idealize.ShloMosaic Idealize.ShloMosaic.TcCoe Idealize.SL.Sem
namespace Cert.ReferenceIdeal.Read
open Cert.ReferenceIdeal Cert.ReferenceIdeal.Gen Cert.ReferenceIdeal.Steps Cert.Match

variable (arg0 : FVec Ideal S65536x21 .f32) (arg1 arg2 : FVec Ideal S65536x4 .f32) (arg3 : FVec Ideal S256x4 .f32) (arg4 : IVec S256 32)

/-- The target boxes. -/
def tg (t : Fin 256) : Box := fun k => arg3 (ix2 t k)
/-- A row of an array of boxes. -/
def an (n : Fin 65536) : Box := fun k => arg2 (ix2 n k)

/-- The area of a target. -/
theorem v10_at (t : Fin 256) : res_v10 arg3 (ix1 t : S256.Idx) = area (tg arg3 t) := by
  pointwise [res_v10, st_v10]
  rfl
/-- The area of an anchor. -/
theorem v21_at (n : Fin 65536) : res_v21 arg2 (ix1 n : S65536.Idx) = area (an arg2 n) := by
  pointwise [res_v21, st_v21]
  rfl
/-- The first extent of an overlap. -/
theorem v37_at0 (t : Fin 256) (n : Fin 65536) : res_v37 arg2 arg3 (ix3 t n (0 : Fin 2) : S256x65536x2.Idx)
    = max 0 (min (tg arg3 t 2) (an arg2 n 2) - max (tg arg3 t 0) (an arg2 n 0)) := by
  pointwise [res_v37, st_v37]
  rfl
/-- The second extent of an overlap. -/
theorem v37_at1 (t : Fin 256) (n : Fin 65536) : res_v37 arg2 arg3 (ix3 t n (1 : Fin 2) : S256x65536x2.Idx)
    = max 0 (min (tg arg3 t 3) (an arg2 n 3) - max (tg arg3 t 1) (an arg2 n 1)) := by
  pointwise [res_v37, st_v37]
  rfl
/-- The IoU of a target and an anchor. -/
theorem v51_at (t : Fin 256) (n : Fin 65536) : res_v51 arg2 arg3 (ix2 t n : S256x65536.Idx) = iou (tg arg3 t) (an arg2 n) := by
  unfold iou inter
  rw [← v10_at, ← v21_at, ← v37_at0, ← v37_at1]
  pointwise [res_v51, st_v51]
  rfl
/-- The mark of a match, over any arrays of best IoUs. -/
theorem ge_at (v w : FVec Ideal S65536 .f32) (n : Fin 65536) (p : EReal) (hp : v (ix1 n) = p) (hw : w (ix1 n) = cHalf) :
    cmpf .oge v w (ix1 n : S65536.Idx) = BitVec.ofBool (decide (cHalf ≤ p)) := by
  subst hp; rw [← hw]; rfl
/-- The best IoU over any array of IoUs. -/
theorem best_of (v : FVec Ideal S256x65536 .f32) (n : Fin 65536) :
    Host.reduce (FloatOps.maximumf (F := Ideal) (φ := .f32)) v (constant S_ .f32 0xFF800000#32) reducesTo_S256x65536_S65536_d0 h_S_ (ix1 n : S65536.Idx)
      = Finset.univ.fold max ⊥ fun t : Fin 256 => v (ix2 t n) := by
  pointwise
  congr 1
/-- Which anchors match. -/
theorem v55_at (n : Fin 65536) : res_v55 arg2 arg3 (ix1 n : S65536.Idx)
    = BitVec.ofBool (decide (cHalf ≤ best (tg arg3) (an arg2 n))) := by
  unfold res_v55 st_v55
  refine ge_at _ _ n _ ((best_of _ n).trans ?_) rfl
  unfold best
  simp only [v51_at]
/-- A decided bit turned to a float is one or zero. -/
theorem bit_at (p q : Prop) [Decidable p] [Decidable q] (h : p ↔ q) :
    (FloatOps.uitofp FTy.f32 (BitVec.ofBool (decide p)) : Ideal .f32) = ind q := by
  by_cases hq : q
  · simp only [h, hq, decide_true, ind, if_true]
    show ((((1#1 : BitVec 1).toNat : Nat) : ℝ) : EReal) = 1
    simp
  · simp only [h, hq, decide_false, ind, if_false]
    show ((((0#1 : BitVec 1).toNat : Nat) : ℝ) : EReal) = 0
    simp
/-- The number of matching anchors, over any array of marks. -/
theorem v57_of (v : IVec S65536 1) (y : S_.Idx) : st_v57 (F := Ideal) v y
    = ∑ n : Fin 65536, (FloatOps.uitofp FTy.f32 (v (ix1 n)) : Ideal .f32) := by
  pointwise [st_v57]
/-- The number of matching anchors. -/
theorem v57_at (y : S_.Idx) : res_v57 (F := Ideal) arg2 arg3 y = ∑ n : Fin 65536, ind (Pos (tg arg3) (an arg2 n)) := by
  unfold res_v57
  rw [v57_of]
  refine Finset.sum_congr rfl fun n _ => ?_
  rw [v55_at]
  exact bit_at _ _ Iff.rfl

end Cert.ReferenceIdeal.Read
-- ==== Proof.RefArg.lean ====
module

public import proofs.«01_k».proof.Proof.RefRead

@[expose] public section

/-!
The reference's argmax and its gathers: where one target alone has the best IoU the argmax names it, and the
gathers read that target's label and box.
-/

set_option maxRecDepth 16384
noncomputable section

open Idealize.ShloMosaic Idealize.ShloMosaic.TcCoe Idealize.SL.Sem
namespace Cert.ReferenceIdeal.Read
open Cert.ReferenceIdeal Cert.ReferenceIdeal.Gen Cert.ReferenceIdeal.Steps Cert.Match

/-! ## The argmax -/

/-- The reducer keeps a left value above the right one. -/
theorem keep_left (a b : Ideal .f32 × BitVec 32) (h : b.1 < a.1) :
    reducer_argmax_f32_i32 (F := Ideal) a b = a := by
  have h1 : (FloatOps.cmpf .ogt a.1 b.1 : BitVec 1) = 1#1 := by
    show BitVec.ofBool (decide (b.1 < a.1)) = 1#1
    simp [h]
  have h2 : ∀ x y : BitVec 1, IntOp.ori (IntOp.ori 1#1 x) y = 1#1 := by decide
  have h3 : ∀ x : BitVec 1, IntOp.ori 1#1 x = 1#1 := by decide
  unfold reducer_argmax_f32_i32
  rw [h1]
  show (Scalar.select (IntOp.ori 1#1 _) a.1 b.1, Scalar.select (IntOp.ori (IntOp.ori 1#1 _) _) a.2 b.2) = a
  rw [h2, h3]
  rfl
/-- The reducer takes a right value above the left one. -/
theorem keep_right (a b : Ideal .f32 × BitVec 32) (h : a.1 < b.1) :
    reducer_argmax_f32_i32 (F := Ideal) a b = b := by
  have h1 : (FloatOps.cmpf .ogt a.1 b.1 : BitVec 1) = 0#1 := by
    show BitVec.ofBool (decide (b.1 < a.1)) = 0#1
    rw [decide_eq_false (lt_asymm h)]; rfl
  have h2 : (FloatOps.cmpf .une a.1 a.1 : BitVec 1) = 0#1 := by
    show BitVec.ofBool (decide (a.1 ≠ a.1)) = 0#1
    simp
  have h3 : (FloatOps.cmpf .oeq a.1 b.1 : BitVec 1) = 0#1 := by
    show BitVec.ofBool (decide (a.1 = b.1)) = 0#1
    simp [h.ne]
  have h4 : ∀ x : BitVec 1, IntOp.andi 0#1 x = 0#1 := by decide
  have h5 : IntOp.ori (0#1) (0#1) = 0#1 := by decide
  unfold reducer_argmax_f32_i32
  simp only [h1, h2, h3, h4, h5]
  rfl
/-- The reducer's value is one of its two values. -/
theorem keep_one (a b : Ideal .f32 × BitVec 32) :
    (reducer_argmax_f32_i32 (F := Ideal) a b).1 = a.1 ∨ (reducer_argmax_f32_i32 (F := Ideal) a b).1 = b.1 := by
  unfold reducer_argmax_f32_i32
  show Scalar.select (IntOp.ori _ _) a.1 b.1 = a.1 ∨ Scalar.select (IntOp.ori _ _) a.1 b.1 = b.1
  unfold Scalar.select
  split
  · exact .inl rfl
  · exact .inr rfl
/-- The reducer of a pair with itself is that pair. -/
theorem keep_same (a : Ideal .f32 × BitVec 32) : reducer_argmax_f32_i32 (F := Ideal) a a = a := by
  unfold reducer_argmax_f32_i32
  have hs : ∀ {α : Type} (x : BitVec 1) (u : α), Scalar.select x u u = u := by
    intro α x u; unfold Scalar.select; split <;> rfl
  simp only [hs]

/-- Folding the reducer over pairs that one of them beats gives that one. -/
theorem champion (p : Ideal .f32 × BitVec 32) : ∀ (l : List (Ideal .f32 × BitVec 32)) (s : Ideal .f32 × BitVec 32),
    (∀ q ∈ l, q = p ∨ q.1 < p.1) → (s = p ∨ s.1 < p.1) → (p ∈ l ∨ s = p) →
    l.foldl (reducer_argmax_f32_i32 (F := Ideal)) s = p
  | [], s, _, _, hin => by
    rcases hin with h | h
    · exact absurd h List.not_mem_nil
    · exact h
  | q :: l, s, hl, hs, hin => by
    have hq := hl q List.mem_cons_self
    have hl' : ∀ r ∈ l, r = p ∨ r.1 < p.1 := fun r hr => hl r (List.mem_cons_of_mem _ hr)
    rw [List.foldl_cons]
    rcases hs with rfl | hs
    · have e : reducer_argmax_f32_i32 (F := Ideal) s q = s := by
        rcases hq with rfl | hq
        · exact keep_same _
        · exact keep_left _ _ hq
      rw [e]
      exact champion s l s hl' (.inl rfl) (.inr rfl)
    · rcases hq with rfl | hq
      · rw [keep_right _ _ hs]
        exact champion q l q hl' (.inl rfl) (.inr rfl)
      · refine champion p l _ hl' (.inr ?_) (.inl ?_)
        · rcases keep_one s q with e | e
          · rw [e]; exact hs
          · rw [e]; exact hq
        · rcases hin with h | h
          · rcases List.mem_cons.mp h with h | h
            · exact absurd (h ▸ hq) (lt_irrefl _)
            · exact h
          · exact absurd (h ▸ hs) (lt_irrefl _)

/-- The pairs an argmax runs over at an index are those of the entries that fall on it. -/
theorem mem_fiber {α β : Type} {s u : Shape} {dims : List (Fin s.rank)} (x : s.Idx → α) (y : s.Idx → β) (h : s.ReducesTo dims u)
    (j : u.Idx) (q : α × β) : q ∈ Host.argReduceFiber x y h j ↔ ∃ i, h.drop i = j ∧ q = (x i, y i) := by
  unfold Host.argReduceFiber
  simp only [List.mem_map, List.mem_filter, List.mem_finRange, true_and, decide_eq_true_eq]
  constructor
  · rintro ⟨k, hk, rfl⟩
    exact ⟨_, hk, rfl⟩
  · rintro ⟨i, hi, rfl⟩
    exact ⟨s.rowMajor i, by rw [Equiv.symm_apply_apply]; exact hi, by rw [Equiv.symm_apply_apply]⟩

/-- The entries that fall on an anchor are those of its column. -/
theorem drop_iff (i : S256x65536.Idx) (n : Fin 65536) :
    reducesTo_S256x65536_S65536_d0.drop i = (ix1 n : S65536.Idx) ↔ i 1 = n := by
  have e : ((reducesTo_S256x65536_S65536_d0.drop i (0 : Fin 1) : Fin _) : Nat) = i 1 :=
    Shape.ReducesTo.drop_apply_val_of_eq reducesTo_S256x65536_S65536_d0 i 0 1
  constructor
  · intro h
    rw [h] at e
    exact Fin.ext e.symm
  · intro h
    funext k
    have hk : k = (0 : Fin 1) := Subsingleton.elim _ _
    subst hk
    exact Fin.ext (e.trans (congrArg Fin.val h))

/-- An argmax is the fold of its reducer over the pairs that fall on an index, from the initial pair. -/
theorem fold_gen {s u v : Shape} {dims : List (Fin s.rank)} (f : Ideal .f32 × BitVec 32 → Ideal .f32 × BitVec 32 → Ideal .f32 × BitVec 32)
    (x : FVec Ideal s .f32) (y : IVec s 32) (ix : FVec Ideal v .f32) (iy : IVec v 32) (h : s.ReducesTo dims u) (hu : 0 < v.numel)
    (j : u.Idx) (a : Ideal .f32) (b : BitVec 32) (ha : ix (Shape.Idx.first hu) = a) (hb : iy (Shape.Idx.first hu) = b) :
    (Host.argReduce f x y ix iy h hu j).2 = ((Host.argReduceFiber x y h j).foldl f (a, b)).2 := by
  rw [Ideal.argReduce_eq_reduce2, Host.reduce2_eq_foldl_fiber, ha, hb]

/-- The least value is the argmax's initial value. -/
theorem neg_inf (i : S_.Idx) : (constant S_ .f32 0xFF800000#32 : FVec Ideal S_ .f32) i = (⊥ : EReal) := by
  show Ideal.ofBits .f32 0xFF800000#32 = ⊥
  simp [Ideal.ofBits, Ideal.ieee]

/-- The argmax, as one reduction. -/
theorem v53_eq (v : FVec Ideal S256x65536 .f32) (j : S65536.Idx) : st_v53 v j
    = (Host.argReduce (reducer_argmax_f32_i32 (F := Ideal)) v (iotaInDim S256x65536 32 0) (constant S_ .f32 0xFF800000#32)
        (constantI S_ 32 0#32) reducesTo_S256x65536_S65536_d0 h_S_ j).2 := by
  rw [st_v53]

/-- An argmax over targets is the fold over a column, from the least value. -/
theorem column_fold (v : FVec Ideal S256x65536 .f32) (w : IVec S256x65536 32) (j : S65536.Idx) (c : FVec Ideal S_ .f32)
    (hc : c (Shape.Idx.first h_S_) = ⊥) :
    (Host.argReduce (reducer_argmax_f32_i32 (F := Ideal)) v w c (constantI S_ 32 0#32) reducesTo_S256x65536_S65536_d0 h_S_ j).2
      = ((Host.argReduceFiber v w reducesTo_S256x65536_S65536_d0 j).foldl
        (reducer_argmax_f32_i32 (F := Ideal)) ((⊥ : EReal), 0#32)).2 :=
  fold_gen (reducer_argmax_f32_i32 (F := Ideal)) v w c
    (constantI S_ 32 0#32) reducesTo_S256x65536_S65536_d0 h_S_ j _ _ hc rfl

/-- The argmax of any array of IoUs. -/
theorem v53_fold (v : FVec Ideal S256x65536 .f32) (j : S65536.Idx) : st_v53 v j
    = ((Host.argReduceFiber v (iotaInDim S256x65536 32 0) reducesTo_S256x65536_S65536_d0 j).foldl
        (reducer_argmax_f32_i32 (F := Ideal)) ((⊥ : EReal), 0#32)).2 :=
  (v53_eq v j).trans (column_fold v _ j _ (neg_inf _))

/-- The row numbers. -/
theorem iota_at (t : Fin 256) (n : Fin 65536) : iotaInDim S256x65536 32 0 (ix2 t n : S256x65536.Idx) = BitVec.ofNat 32 t.val := by
  pointwise

/-- The argmax of a column whose greatest entry is alone names that entry. -/
theorem v53_of (v : FVec Ideal S256x65536 .f32) (n : Fin 65536) (t : Fin 256) (hb : ⊥ < v (ix2 t n))
    (hu : ∀ s : Fin 256, s ≠ t → v (ix2 s n) < v (ix2 t n)) :
    st_v53 v (ix1 n : S65536.Idx) = BitVec.ofNat 32 t.val := by
  rw [v53_fold, champion (v (ix2 t n), BitVec.ofNat 32 t.val)]
  · intro q hq
    obtain ⟨i, hi, rfl⟩ := (mem_fiber _ _ _ _ _).mp hq
    have h1 := (drop_iff i n).mp hi
    obtain ⟨s, m, rfl⟩ : ∃ (s : Fin 256) (m : Fin 65536), i = ix2 s m := ⟨i 0, i 1, eq_ix2 i⟩
    obtain rfl : m = n := h1
    rw [iota_at]
    by_cases h : s = t
    · left; rw [h]
    · right; exact hu s h
  · right; exact hb
  · left
    refine (mem_fiber _ _ _ _ _).mpr ⟨ix2 t n, (drop_iff _ n).mpr rfl, ?_⟩
    rw [iota_at]

/-! ## The gathers -/

/-- The index array a gather takes. -/
def wrap (v53 : IVec S65536 32) : IVec S65536x1 32 :=
  broadcastInDim S65536x1 ![0] bcast_S65536_S65536x1_0
    (select (cmpi .slt v53 (broadcastInDim S65536 ![] bcast_S_S65536 (constantI S_ 32 0#32)))
      (addi v53 (broadcastInDim S65536 ![] bcast_S_S65536 (constantI S_ 32 256#32))) v53)

/-- An index in range is taken as it is. -/
theorem wrap_at (v53 : IVec S65536 32) (n : Fin 65536) (t : Fin 256) (h : v53 (ix1 n) = BitVec.ofNat 32 t.val) :
    wrap v53 (ix2 n (0 : Fin 1) : S65536x1.Idx) = BitVec.ofNat 32 t.val := by
  have hn : ∀ t : Fin 256, IntOp.cmpi .slt (BitVec.ofNat 32 t.val) 0#32 = 0#1 := by decide
  pointwise [wrap]
  rw [h, hn]
  rfl

/-- A decided equality turned to a float is one or zero. -/
theorem eq_at (a b : BitVec 32) : (FloatOps.uitofp FTy.f32 (IntOp.cmpi .eq a b) : Ideal .f32) = ind (a = b) := by
  have e : IntOp.cmpi .eq a b = BitVec.ofBool (decide (a = b)) := by
    unfold IntOp.cmpi; rw [Bool.beq_eq_decide_eq]
  rw [e]
  exact bit_at _ _ Iff.rfl

/-- The one-hot row of a label, where the index array names target `t`. -/
theorem v65_of (arg4 : IVec S256 32) (v53 : IVec S65536 32) (n : Fin 65536) (c : Fin 21) (t : Fin 256)
    (h : v53 (ix1 n) = BitVec.ofNat 32 t.val) :
    st_v65 (F := Ideal) arg4 v53 (ix2 n c : S65536x21.Idx) = ind (arg4 (ix1 t) = BitVec.ofNat 32 c.val) := by
  have hg := Idealize.ShloMosaic.Routing.gather_take1 gather_S256_S65536x1_S65536_n_0_n_n_0_1_1 rfl rfl rfl rfl
    arg4 (wrap v53) n t (wrap_at v53 n t h) (by norm_num)
  unfold wrap at hg
  pointwise [st_v65]
  exact (congrArg (fun x => (FloatOps.uitofp FTy.f32 (IntOp.cmpi .eq x (BitVec.ofNat 32 c.val)) : Ideal .f32)) hg).trans (eq_at _ _)

/-- The matched box, where the index array names target `t`. -/
theorem v111_of (arg3 : FVec Ideal S256x4 .f32) (v53 : IVec S65536 32) (n : Fin 65536) (k : Fin 4) (t : Fin 256)
    (h : v53 (ix1 n) = BitVec.ofNat 32 t.val) :
    st_v111 (F := Ideal) arg3 v53 (ix2 n k : S65536x4.Idx) = arg3 (ix2 t k) :=
  Idealize.ShloMosaic.Routing.gather_row gather_S256x4_S65536x1_S65536x4_1_0_n_n_0_1_14 rfl rfl rfl rfl rfl
    arg3 (wrap v53) n k t (wrap_at v53 n t h) (by norm_num)

end Cert.ReferenceIdeal.Read
-- ==== Proof.RefLoss.lean ====
module

public import proofs.«01_k».proof.Proof.RefRead

@[expose] public section

/-!
The reference's two losses, read at an index: the focal loss of each logit and the smooth L1 loss of each
coordinate, over any class targets and any matched boxes.
-/

set_option maxRecDepth 16384
noncomputable section

open Idealize.ShloMosaic Idealize.ShloMosaic.TcCoe Idealize.SL.Sem
namespace Cert.ReferenceIdeal.Read
open Cert.ReferenceIdeal Cert.ReferenceIdeal.Gen Cert.ReferenceIdeal.Steps Cert.Match

/-- The pattern of one is one. -/
theorem one_bits : Ideal.ofBits .f32 0x3F800000#32 = 1 := by
  simp [Ideal.ofBits, Ideal.ieee, -EReal.coe_mul]; try norm_num
/-- The pattern of zero is zero. -/
theorem zero_bits : Ideal.ofBits .f32 0x00000000#32 = 0 := by
  simp [Ideal.ofBits, Ideal.ieee]

/-- A choice by a decided bit. -/
theorem select_dec {α : Type} (p : Prop) [Decidable p] (a b : α) :
    Scalar.select (BitVec.ofBool (decide p)) a b = if p then a else b := by
  by_cases h : p
  · simp only [h, decide_true, if_true]; rfl
  · simp only [h, decide_false, if_false]; rfl

/-- The class target: the one-hot row where the anchor matches. -/
theorem v67_of (v55 : IVec S65536 1) (v65 : FVec Ideal S65536x21 .f32) (n : Fin 65536) (c : Fin 21) (p : Prop) [Decidable p]
    (h : v55 (ix1 n) = BitVec.ofBool (decide p)) :
    st_v67 v55 v65 (ix2 n c : S65536x21.Idx) = if p then v65 (ix2 n c) else 0 := by
  pointwise [st_v67]
  rw [h, select_dec]

/-- The cross entropy of a logit. -/
theorem v76_of (arg0 v67 : FVec Ideal S65536x21 .f32) (i : S65536x21.Idx) :
    st_v76 arg0 v67 i = ce (arg0 i) (v67 i) := by
  pointwise [st_v76]
  rfl
/-- The probability of a logit. -/
theorem v82_of (arg0 : FVec Ideal S65536x21 .f32) (i : S65536x21.Idx) : st_v82 arg0 i = Cert.Match.sig (arg0 i) := by
  unfold Cert.Match.sig Ideal.logistic
  rw [← one_bits]
  pointwise [st_v82]
/-- The probability given to the right answer. -/
theorem v89_of (v67 v82 : FVec Ideal S65536x21 .f32) (i : S65536x21.Idx) :
    st_v89 v67 v82 i = v82 i * v67 i + (1 - v82 i) * (1 - v67 i) := by
  rw [← one_bits]
  pointwise [st_v89]
  try rfl
/-- The class weight. -/
theorem v96_of (v67 : FVec Ideal S65536x21 .f32) (i : S65536x21.Idx) : st_v96 v67 i = aw (v67 i) := by
  unfold aw
  rw [← one_bits]
  pointwise [st_v96]
  rfl
/-- The class weight times the focal factor. -/
theorem v101_of (v89 v96 : FVec Ideal S65536x21 .f32) (i : S65536x21.Idx) :
    st_v101 v89 v96 i = v96 i * Ideal.pow (1 - v89 i) cTwo := by
  rw [← one_bits]
  pointwise [st_v101]
  rfl
/-- The sum of the class losses over the number of matches. -/
theorem v104_of (v57 : FVec Ideal S_ .f32) (v76 v101 : FVec Ideal S65536x21 .f32) (y : S_.Idx) :
    st_v104 v57 v76 v101 y = Ideal.div (∑ n : Fin 65536, ∑ c : Fin 21, v101 (ix2 n c) * v76 (ix2 n c)) (v57 y) := by
  pointwise [st_v104]

/-- The encoding of a matched box. -/
theorem v138_of (arg2 v111 : FVec Ideal S65536x4 .f32) (n : Fin 65536) (k : Fin 4) :
    st_v138 (st_v119 v111) (st_v127 arg2) (st_v131 arg2 v111) (ix2 n k : S65536x4.Idx)
      = enc (fun j => v111 (ix2 n j)) (an arg2 n) k := by
  fin_cases k
  all_goals
    pointwise [st_v138, st_v119, st_v127, st_v131]
    rfl

/-- The smooth L1 loss of a coordinate. -/
theorem v148_of (arg1 v138 : FVec Ideal S65536x4 .f32) (i : S65536x4.Idx) :
    st_v148 arg1 v138 i = sl1 (arg1 i - v138 i) := by
  unfold sl1
  rw [← select_dec, ← one_bits]
  pointwise [st_v148]
  rfl

/-- The box loss: the sum of the coordinates' losses of the matches over four times their number. -/
theorem v157_of (v57 : FVec Ideal S_ .f32) (v148 : FVec Ideal S65536x4 .f32) (v55 : IVec S65536 1) (y : S_.Idx) :
    st_v157 v57 v148 (st_v149 v55) y
      = Ideal.div (∑ n : Fin 65536, ∑ k : Fin 4, v148 (ix2 n k) * (FloatOps.uitofp FTy.f32 (v55 (ix1 n)) : Ideal .f32))
        (v57 y * Ideal.ofBits .f32 0x40800000#32) := by
  pointwise [st_v157, st_v149]

/-- The class loss times one. -/
theorem v156_of (v104 : FVec Ideal S_ .f32) (y : S_.Idx) : st_v156 v104 y = v104 y := by
  pointwise [st_v156]
  try rw [one_bits, mul_one]

/-- The whole loss is the sum of the two. -/
theorem v158_of (v57 v104 : FVec Ideal S_ .f32) (v148 : FVec Ideal S65536x4 .f32) (v149 : IVec S65536x1 1) :
    st_v158 v57 v104 v148 v149 = addf (st_v156 v104) (st_v157 v57 v148 v149) := rfl

end Cert.ReferenceIdeal.Read
-- ==== Proof.Meet.lean ====
module

public import proofs.«01_k».proof.Proof.RefArg
public import proofs.«01_k».proof.Proof.RefLoss
public import proofs.«01_k».proof.Proof.KerOut
public import proofs.«01_k».proof.Proof.KerTail

@[expose] public section

/-!
The equation: where no tie decides a match, the kernel's sums over its blocks are the reference's sums over
the anchors, so the three results agree.
-/

set_option maxRecDepth 16384
noncomputable section

open Idealize.ShloMosaic Idealize.ShloMosaic.TcCoe Idealize.SL.Sem
namespace Cert.Meet
open Cert.ReferenceIdeal Cert.ReferenceIdeal.Gen Cert.ReferenceIdeal.Steps Cert.ReferenceIdeal.Read Cert.Match
open Cert.KernelIdeal.Block (lane flip row cut4 cut21 kBox kCls kFocal kSmooth kCount fin14 fin16 fin17 fin14_at fin16_at)

variable (arg0 : FVec Ideal S65536x21 .f32) (arg1 arg2 : FVec Ideal S65536x4 .f32) (arg3 : FVec Ideal S256x4 .f32) (arg4 : IVec S256 32)

/-- The kernel's class target of an anchor. -/
def cls (n : Fin 65536) (c : Fin 21) : EReal :=
  ∑ t : Fin 256, ind (arg4 (ix1 t) = BitVec.ofNat 32 c.val) * mark (tg arg3) (an arg2 n) t
/-- The kernel's matched box of an anchor. -/
def box (n : Fin 65536) : Box := fun k => ∑ t : Fin 256, arg3 (ix2 t k) * mark (tg arg3) (an arg2 n) t

/-! ## One anchor -/

/-- The argmax of an anchor that one target alone matches best names that target. -/
theorem argmax_at (n : Fin 65536) (hp : Pos (tg arg3) (an arg2 n)) (t : Fin 256)
    (ht : iou (tg arg3 t) (an arg2 n) = best (tg arg3) (an arg2 n))
    (hu : ∀ s, iou (tg arg3 s) (an arg2 n) = best (tg arg3) (an arg2 n) → s = t) :
    res_v53 (F := Ideal) arg2 arg3 (ix1 n : S65536.Idx) = BitVec.ofNat 32 t.val := by
  refine v53_of (res_v51 arg2 arg3) n t ?_ fun s hs => ?_
  · rw [v51_at, ht]; exact lt_of_lt_of_le bot_lt_cHalf hp
  · rw [v51_at, v51_at, ht]
    exact lt_of_le_of_ne (iou_le_best _ _ s) fun e => hs (hu s e)

/-- The reference's class target is the kernel's, and it is zero or one. -/
theorem cls_eq (n : Fin 65536) (c : Fin 21) (h : OneBest (tg arg3) (an arg2 n)) :
    res_v67 (F := Ideal) arg2 arg3 arg4 (ix2 n c : S65536x21.Idx) = cls arg2 arg3 arg4 n c
      ∧ (cls arg2 arg3 arg4 n c = 0 ∨ cls arg2 arg3 arg4 n c = 1) := by
  have e := v67_of (res_v55 arg2 arg3) (res_v65 arg2 arg3 arg4) n c _ (v55_at arg2 arg3 n)
  by_cases hp : Pos (tg arg3) (an arg2 n)
  · obtain ⟨t, ht, hu⟩ : ∃ t, iou (tg arg3 t) (an arg2 n) = best (tg arg3) (an arg2 n)
        ∧ ∀ s, iou (tg arg3 s) (an arg2 n) = best (tg arg3) (an arg2 n) → s = t := by
      rcases h with h | h
      · exact absurd hp (not_le.mpr h)
      · exact h
    have hk : cls arg2 arg3 arg4 n c = ind (arg4 (ix1 t) = BitVec.ofNat 32 c.val) :=
      sum_mark_of_pos hp ht hu fun s => ind (arg4 (ix1 s) = BitVec.ofNat 32 c.val)
    constructor
    · refine e.trans ?_
      rw [if_pos (show cHalf ≤ best (tg arg3) (an arg2 n) from hp), hk]
      exact v65_of arg4 _ n c t (argmax_at arg2 arg3 n hp t ht hu)
    · rw [hk]; unfold ind; split
      · exact .inr rfl
      · exact .inl rfl
  · have hk : cls arg2 arg3 arg4 n c = 0 := sum_mark_of_not_pos hp _
    exact ⟨(e.trans (if_neg hp)).trans hk.symm, .inl hk⟩

/-- The focal loss of a logit, in the reference, is the kernel's. -/
theorem focal_eq (n : Fin 65536) (c : Fin 21) (h : OneBest (tg arg3) (an arg2 n)) :
    res_v101 (F := Ideal) arg0 arg2 arg3 arg4 (ix2 n c) * res_v76 (F := Ideal) arg0 arg2 arg3 arg4 (ix2 n c)
      = focal (arg0 (ix2 n c)) (cls arg2 arg3 arg4 n c) := by
  obtain ⟨hy, h01⟩ := cls_eq arg2 arg3 arg4 n c h
  rw [← focal_pow _ _ h01]
  unfold res_v101 res_v76 res_v89 res_v96 res_v82
  rw [v101_of, v76_of, v96_of, v89_of, v82_of, hy]
  rfl

/-- The box loss of a coordinate, in the reference, is the kernel's. -/
theorem box_eq (n : Fin 65536) (k : Fin 4) (h : OneBest (tg arg3) (an arg2 n)) :
    res_v148 (F := Ideal) arg1 arg2 arg3 (ix2 n k) * (FloatOps.uitofp FTy.f32 (res_v55 (F := Ideal) arg2 arg3 (ix1 n)) : Ideal .f32)
      = boxLoss (fun i => arg1 (ix2 n i)) (box arg2 arg3 n) (an arg2 n) (ind (Pos (tg arg3) (an arg2 n))) k := by
  rw [v55_at, bit_at (cHalf ≤ best (tg arg3) (an arg2 n)) (Pos (tg arg3) (an arg2 n)) Iff.rfl]
  unfold boxLoss
  by_cases hp : Pos (tg arg3) (an arg2 n)
  · obtain ⟨t, ht, hu⟩ : ∃ t, iou (tg arg3 t) (an arg2 n) = best (tg arg3) (an arg2 n)
        ∧ ∀ s, iou (tg arg3 s) (an arg2 n) = best (tg arg3) (an arg2 n) → s = t := by
      rcases h with h | h
      · exact absurd hp (not_le.mpr h)
      · exact h
    have hb : (fun j => res_v111 (F := Ideal) arg2 arg3 (ix2 n j)) = box arg2 arg3 n := by
      funext j
      refine (v111_of arg3 _ n j t (argmax_at arg2 arg3 n hp t ht hu)).trans ?_
      exact (sum_mark_of_pos hp ht hu fun s => arg3 (ix2 s j)).symm
    unfold res_v148 res_v138 res_v119 res_v127 res_v131
    rw [v148_of, v138_of, hb]
  · have hz : ind (Pos (tg arg3) (an arg2 n)) = 0 := if_neg hp
    rw [hz, mul_zero, mul_zero]

/-! ## All anchors -/

/-- A sum over blocks and lanes is a sum over anchors. -/
theorem sum_lanes (f : Fin 65536 → EReal) : ∑ j : Fin 4, ∑ l : Fin 16384, f (lane j l) = ∑ n : Fin 65536, f n :=
  (Fin.sum_univ_tiles 4 16384 (by norm_num) f).symm

/-- The kernel's focal losses of a block, as those of its anchors. -/
theorem kFocal_eq (j : Fin 4) : kFocal arg3 (row arg4) (cut4 arg2 j) (cut21 arg0 j)
    = ∑ l : Fin 16384, ∑ c : Fin 21, focal (arg0 (ix2 (lane j l) c)) (cls arg2 arg3 arg4 (lane j l) c) :=
  Finset.sum_comm

/-- The kernel's box losses of a block, as those of its anchors. -/
theorem kSmooth_eq (j : Fin 4) : kSmooth arg3 (flip arg3) (cut4 arg2 j) (cut4 arg1 j)
    = ∑ l : Fin 16384, ∑ k : Fin 4, boxLoss (fun i => arg1 (ix2 (lane j l) i)) (box arg2 arg3 (lane j l)) (an arg2 (lane j l))
        (ind (Pos (tg arg3) (an arg2 (lane j l)))) k :=
  Finset.sum_comm

/-- The kernel's matches of a block, as those of its anchors. -/
theorem kCount_eq (j : Fin 4) : kCount arg3 (cut4 arg2 j)
    = ∑ l : Fin 16384, ind (Pos (tg arg3) (an arg2 (lane j l))) := rfl

variable (v5 : FVec Ideal Cert.KernelIdeal.S4x1x128 .f32)
  (h0 : ∀ j : Fin 4, v5 (ix3 j (0 : Fin 1) (0 : Fin 128)) = kFocal arg3 (row arg4) (cut4 arg2 j) (cut21 arg0 j))
  (h1 : ∀ j : Fin 4, v5 (ix3 j (0 : Fin 1) (1 : Fin 128)) = kSmooth arg3 (flip arg3) (cut4 arg2 j) (cut4 arg1 j))
  (h2 : ∀ j : Fin 4, v5 (ix3 j (0 : Fin 1) (2 : Fin 128)) = kCount arg3 (cut4 arg2 j))
  (hone : ∀ n : Fin 65536, OneBest (tg arg3) (an arg2 n))

include h2 in
/-- The number of matches. -/
theorem count_sum (y : S_.Idx) : ∑ j : Fin 4, v5 (ix3 j (0 : Fin 1) (2 : Fin 128)) = res_v57 (F := Ideal) arg2 arg3 y := by
  rw [v57_at, ← sum_lanes]
  exact Finset.sum_congr rfl fun j _ => (h2 j).trans (kCount_eq arg2 arg3 j)

include h0 h2 hone in
/-- The class losses agree. -/
theorem class_eq : fin14 v5 = res_v156 (F := Ideal) arg0 arg2 arg3 arg4 := by
  funext y
  rw [fin14_at, count_sum arg2 arg3 v5 h2 y]
  unfold res_v156 res_v104
  rw [v156_of, v104_of]
  refine congrArg (fun x => Ideal.div x _) ?_
  rw [← sum_lanes]
  refine Finset.sum_congr rfl fun j _ => (h0 j).trans ((kFocal_eq arg0 arg2 arg3 arg4 j).trans ?_)
  refine Finset.sum_congr rfl fun l _ => Finset.sum_congr rfl fun c _ => ?_
  exact (focal_eq arg0 arg2 arg3 arg4 (lane j l) c (hone _)).symm

include h1 h2 hone in
/-- The box losses agree. -/
theorem smooth_eq : fin16 v5 = res_v157 (F := Ideal) arg1 arg2 arg3 := by
  funext y
  rw [fin16_at, count_sum arg2 arg3 v5 h2 y]
  unfold res_v157 res_v149
  rw [v157_of]
  refine congrArg (fun x => Ideal.div x _) ?_
  rw [← sum_lanes]
  refine Finset.sum_congr rfl fun j _ => (h1 j).trans ((kSmooth_eq arg1 arg2 arg3 j).trans ?_)
  refine Finset.sum_congr rfl fun l _ => Finset.sum_congr rfl fun k _ => ?_
  exact (box_eq arg1 arg2 arg3 (lane j l) k (hone _)).symm

include h0 h1 h2 hone in
/-- The whole losses agree. -/
theorem whole_eq : fin17 v5 = res_v158 (F := Ideal) arg0 arg1 arg2 arg3 arg4 := by
  unfold fin17 res_v158
  rw [class_eq arg0 arg2 arg3 arg4 v5 h0 h2 hone, smooth_eq arg1 arg2 arg3 v5 h1 h2 hone, v158_of]
  rfl

end Cert.Meet
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_one_best_target
public import proofs.«01_k».proof.Proof.RefRun
public import proofs.«01_k».proof.Proof.KerRun
public import proofs.«01_k».proof.Proof.PreRead
public import proofs.«01_k».proof.Proof.Meet

@[expose] public section

/-!
The claims, put together: the frames of the kernel, of the kernel over the extended reals and of the reference;
and the equality of the three results, from the kernel's run (`KerRun`), the reference's run (`RefRun`), the
precondition's reading (`PreRead`) and the equation between them (`Meet`).
-/

set_option maxRecDepth 16384

noncomputable section

namespace Cert.Proof

open Idealize.ShloMosaic Idealize.ShloMosaic.TcCoe Idealize.SL.Sem Cert.Match
open Cert.KernelIdeal.Block (outArr fin14 fin16 fin17 outArr_0 outArr_1 outArr_2)

/-- No tie decides a match, under the precondition. -/
theorem no_tie (m : (ℓ : Loc Cert.KernelIdeal.nD Cert.KernelIdeal.τ Cert.KernelIdeal.sig) → Buf (Elt Ideal) ℓ)
    (hp : Cert.Pre_KernelIdeal_one_best_target m) (c : Dev Cert.KernelIdeal.nD) (n : Fin 65536) :
    OneBest (Cert.ReferenceIdeal.Read.tg (m ((c.tc : Thread Cert.KernelIdeal.nD Cert.KernelIdeal.τ).loc Cert.KernelIdeal.main_arg3)))
      (Cert.ReferenceIdeal.Read.an (m ((c.tc : Thread Cert.KernelIdeal.nD Cert.KernelIdeal.τ).loc Cert.KernelIdeal.main_arg2)) n) :=
  Cert.Pre_one_best_target.Read.one_best _ _ _ _ _ (hp c) n

/-- The reference runs, leaves its arguments as they were, and ends with every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run (Cert.ReferenceIdeal.defs (F := Ideal)) _ _).mono
    (fun r h => ⟨fun c => (h c).2.2.2, Cert.ReferenceIdeal.Steps.sem_zero _⟩) (Cert.ReferenceIdeal.Steps.run m g)

/-- The kernel's three results are the reference's, over the extended reals, where no tie decides a match. -/
theorem algebraic : Cert.algebraic_KernelIdeal_ReferenceIdeal_pre_one_best_target := by
  intro m g m' g' hp hagree
  refine ⟨fun c => fin17 (outArr m c), fun c => fin14 (outArr m c), fun c => fin16 (outArr m c), ?_, ?_⟩
  · exact (θ_run (Cert.KernelIdeal.defs (F := Ideal)) _ _).mono
      (fun r h c => ⟨(h c).1.1, (h c).1.2.1, (h c).1.2.2, (h c).2⟩) (Cert.KernelIdeal.Block.run m g)
  · refine (θ_run (Cert.ReferenceIdeal.defs (F := Ideal)) _ _).mono (fun r h c => ?_) (Cert.ReferenceIdeal.Steps.run m' g')
    obtain ⟨r0, r1, r2, hargs⟩ := h c
    obtain ⟨a0, a1, a2, a3, a4⟩ := hagree c
    rw [a0, a1, a2, a3, a4] at r0
    rw [a0, a2, a3, a4] at r1
    rw [a1, a2, a3] at r2
    refine ⟨r0.trans ?_, r1.trans ?_, r2.trans ?_, hargs⟩
    · exact (Cert.Meet.whole_eq _ _ _ _ _ (outArr m c) (fun j => outArr_0 m c j) (fun j => outArr_1 m c j)
        (fun j => outArr_2 m c j) (no_tie m hp c)).symm
    · exact (Cert.Meet.class_eq _ _ _ _ (outArr m c) (fun j => outArr_0 m c j)
        (fun j => outArr_2 m c j) (no_tie m hp c)).symm
    · exact (Cert.Meet.smooth_eq _ _ _ (outArr m c) (fun j => outArr_1 m c j)
        (fun j => outArr_2 m c j) (no_tie m hp c)).symm

/-- All the claims. -/
theorem claim : Cert.Claim :=
  ⟨Cert.Kernel.Gen.facts, Cert.KernelIdeal.Gen.facts, Cert.ReferenceIdeal.Gen.facts, Cert.Pre_one_best_target.Gen.facts,
    fun m ρ _ => Cert.Kernel.Gen.frame m ρ,
    fun m ρ _ => Cert.KernelIdeal.Gen.frame m ρ,
    fun m ρ _ => Cert.KernelIdeal.Gen.frame m ρ,
    fun m g _ => reference_frame m g,
    fun m g _ => reference_frame m g,
    trivial,
    algebraic⟩

end Cert.Proof
